-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Filt (m : (ℓ : Loc Cert.Filt.nD Cert.Filt.τ Cert.Filt.sig) → Buf (Elt Bits) ℓ) : Prop :=
  True

def Pre_FiltIdeal (m : (ℓ : Loc Cert.FiltIdeal.nD Cert.FiltIdeal.τ Cert.FiltIdeal.sig) → Buf (Elt Ideal) ℓ) : Prop :=
  True

def Pre_FiltRefIdeal (m : (ℓ : Loc Cert.FiltRefIdeal.nD Cert.FiltRefIdeal.τ Cert.FiltRefIdeal.sig) → Buf (Elt Ideal) ℓ) : Prop :=
  True

def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftRefIdeal (m : (ℓ : Loc Cert.DftRefIdeal.nD Cert.DftRefIdeal.τ Cert.DftRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Filt [hFilt : Cert.Filt.Facts] : Prop :=
  ∀ (m : (ℓ : Loc Cert.Filt.nD Cert.Filt.τ Cert.Filt.sig) → Buf (Elt Bits) ℓ) (g : Dev Cert.Filt.nD → PrngReg), Pre_Filt m →
    θ_run (Cert.Filt.defs (F := Bits)) (onTc (τ := Cert.Filt.τ) (Cert.Filt.main (F := Bits))) ⟨m, fun _ => 0, g⟩ (fun r => (∀ c : Dev Cert.Filt.nD,
      r.2.mem ((c.tc : Thread Cert.Filt.nD Cert.Filt.τ).loc Cert.Filt.main_arg0) = m ((c.tc : Thread Cert.Filt.nD Cert.Filt.τ).loc Cert.Filt.main_arg0)
      ∧ r.2.mem ((c.tc : Thread Cert.Filt.nD Cert.Filt.τ).loc Cert.Filt.main_arg1) = m ((c.tc : Thread Cert.Filt.nD Cert.Filt.τ).loc Cert.Filt.main_arg1)
      ∧ r.2.mem ((c.tc : Thread Cert.Filt.nD Cert.Filt.τ).loc Cert.Filt.main_arg2) = m ((c.tc : Thread Cert.Filt.nD Cert.Filt.τ).loc Cert.Filt.main_arg2)
      ∧ r.2.mem ((c.tc : Thread Cert.Filt.nD Cert.Filt.τ).loc Cert.Filt.main_arg3) = m ((c.tc : Thread Cert.Filt.nD Cert.Filt.τ).loc Cert.Filt.main_arg3)
      ∧ r.2.mem ((c.tc : Thread Cert.Filt.nD Cert.Filt.τ).loc Cert.Filt.main_arg4) = m ((c.tc : Thread Cert.Filt.nD Cert.Filt.τ).loc Cert.Filt.main_arg4))
      ∧ r.2.sem = fun _ => 0)

def quiescent_FiltIdeal [hFiltIdeal : Cert.FiltIdeal.Facts] : Prop :=
  ∀ (m : (ℓ : Loc Cert.FiltIdeal.nD Cert.FiltIdeal.τ Cert.FiltIdeal.sig) → Buf (Elt Ideal) ℓ) (g : Dev Cert.FiltIdeal.nD → PrngReg), Pre_FiltIdeal m →
    θ_run (Cert.FiltIdeal.defs (F := Ideal)) (onTc (τ := Cert.FiltIdeal.τ) (Cert.FiltIdeal.main (F := Ideal))) ⟨m, fun _ => 0, g⟩ (fun r => (∀ c : Dev Cert.FiltIdeal.nD,
      r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
      ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
      ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2)
      ∧ r.2.mem ((c.tc : Thread Cert.FiltIdeal.nD Cert.FiltIdeal.τ).loc Cert.FiltIdeal.main_arg3) = m ((c.tc : Thread Cert.FiltIdeal.nD Cert.FiltIdeal.τ).loc Cert.FiltIdeal.main_arg3)
      ∧ r.2.mem ((c.tc : Thread Cert.FiltIdeal.nD Cert.FiltIdeal.τ).loc Cert.FiltIdeal.main_arg4) = m ((c.tc : Thread Cert.FiltIdeal.nD Cert.FiltIdeal.τ).loc Cert.FiltIdeal.main_arg4))
      ∧ r.2.sem = fun _ => 0)

def quiescent_FiltRefIdeal [hFiltRefIdeal : Cert.FiltRefIdeal.Facts] : Prop :=
  ∀ (m : (ℓ : Loc Cert.FiltRefIdeal.nD Cert.FiltRefIdeal.τ Cert.FiltRefIdeal.sig) → Buf (Elt Ideal) ℓ) (g : Dev Cert.FiltRefIdeal.nD → PrngReg), Pre_FiltRefIdeal m →
    θ_run (Cert.FiltRefIdeal.defs (F := Ideal)) (onTc (τ := Cert.FiltRefIdeal.τ) (Cert.FiltRefIdeal.main (F := Ideal))) ⟨m, fun _ => 0, g⟩ (fun r => (∀ c : Dev Cert.FiltRefIdeal.nD,
      r.2.mem ((c.tc : Thread Cert.FiltRefIdeal.nD Cert.FiltRefIdeal.τ).loc Cert.FiltRefIdeal.main_arg0) = m ((c.tc : Thread Cert.FiltRefIdeal.nD Cert.FiltRefIdeal.τ).loc Cert.FiltRefIdeal.main_arg0)
      ∧ r.2.mem ((c.tc : Thread Cert.FiltRefIdeal.nD Cert.FiltRefIdeal.τ).loc Cert.FiltRefIdeal.main_arg1) = m ((c.tc : Thread Cert.FiltRefIdeal.nD Cert.FiltRefIdeal.τ).loc Cert.FiltRefIdeal.main_arg1)
      ∧ r.2.mem ((c.tc : Thread Cert.FiltRefIdeal.nD Cert.FiltRefIdeal.τ).loc Cert.FiltRefIdeal.main_arg2) = m ((c.tc : Thread Cert.FiltRefIdeal.nD Cert.FiltRefIdeal.τ).loc Cert.FiltRefIdeal.main_arg2)
      ∧ r.2.mem ((c.tc : Thread Cert.FiltRefIdeal.nD Cert.FiltRefIdeal.τ).loc Cert.FiltRefIdeal.main_arg3) = m ((c.tc : Thread Cert.FiltRefIdeal.nD Cert.FiltRefIdeal.τ).loc Cert.FiltRefIdeal.main_arg3)
      ∧ r.2.mem ((c.tc : Thread Cert.FiltRefIdeal.nD Cert.FiltRefIdeal.τ).loc Cert.FiltRefIdeal.main_arg4) = m ((c.tc : Thread Cert.FiltRefIdeal.nD Cert.FiltRefIdeal.τ).loc Cert.FiltRefIdeal.main_arg4))
      ∧ r.2.sem = fun _ => 0)

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0))
      ∧ r.2.sem = fun _ => 0)

def quiescent_DftRefIdeal [hDftRefIdeal : Cert.DftRefIdeal.Facts] : Prop :=
  ∀ (m : (ℓ : Loc Cert.DftRefIdeal.nD Cert.DftRefIdeal.τ Cert.DftRefIdeal.sig) → Buf (Elt Ideal) ℓ) (g : Dev Cert.DftRefIdeal.nD → PrngReg), Pre_DftRefIdeal m →
    θ_run (Cert.DftRefIdeal.defs (F := Ideal)) (onTc (τ := Cert.DftRefIdeal.τ) (Cert.DftRefIdeal.main (F := Ideal))) ⟨m, fun _ => 0, g⟩ (fun r => (∀ c : Dev Cert.DftRefIdeal.nD,
      r.2.mem ((c.tc : Thread Cert.DftRefIdeal.nD Cert.DftRefIdeal.τ).loc Cert.DftRefIdeal.main_arg0) = m ((c.tc : Thread Cert.DftRefIdeal.nD Cert.DftRefIdeal.τ).loc Cert.DftRefIdeal.main_arg0))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0))
      ∧ r.2.sem = fun _ => 0)

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v46)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v111) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2_0)) (v1 : (c : Dev Cert.ProjIdeal.nD) → Buf (Elt Ideal) ((c.tc : Thread Cert.ProjIdeal.nD Cert.ProjIdeal.τ).loc Cert.ProjIdeal.main_v2_1)) (v2 : (c : Dev Cert.ProjIdeal.nD) → Buf (Elt Ideal) ((c.tc : Thread Cert.ProjIdeal.nD Cert.ProjIdeal.τ).loc Cert.ProjIdeal.main_v2_2)) (v3 : (c : Dev Cert.ProjIdeal.nD) → Buf (Elt Ideal) ((c.tc : Thread Cert.ProjIdeal.nD Cert.ProjIdeal.τ).loc Cert.ProjIdeal.main_v2_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_v2_1) = v1 c
          ∧ r.2.mem ((c.tc : Thread Cert.ProjIdeal.nD Cert.ProjIdeal.τ).loc Cert.ProjIdeal.main_v2_2) = v2 c
          ∧ r.2.mem ((c.tc : Thread Cert.ProjIdeal.nD Cert.ProjIdeal.τ).loc Cert.ProjIdeal.main_v2_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_v6) = v2 c
          ∧ r.2.mem ((c.tc : Thread Cert.ProjRefIdeal.nD Cert.ProjRefIdeal.τ).loc Cert.ProjRefIdeal.main_v13) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v50) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v2)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v2) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v26) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v4)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v22) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v23) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Filt_FiltIdeal : Prop :=
  True

def algebraic_FiltIdeal_FiltRefIdeal [hFiltIdeal : Cert.FiltIdeal.Facts] [hFiltRefIdeal : Cert.FiltRefIdeal.Facts] : Prop :=
  ∀ (m : (ℓ : Loc Cert.FiltIdeal.nD Cert.FiltIdeal.τ Cert.FiltIdeal.sig) → Buf (Elt Ideal) ℓ) (g : Dev Cert.FiltIdeal.nD → PrngReg)
    (m' : (ℓ : Loc Cert.FiltRefIdeal.nD Cert.FiltRefIdeal.τ Cert.FiltRefIdeal.sig) → Buf (Elt Ideal) ℓ) (g' : Dev Cert.FiltRefIdeal.nD → PrngReg), Pre_FiltIdeal m →
    (∀ c : Dev Cert.FiltIdeal.nD,
      m' ((c.tc : Thread Cert.FiltRefIdeal.nD Cert.FiltRefIdeal.τ).loc Cert.FiltRefIdeal.main_arg0) = m ((c.tc : Thread Cert.FiltIdeal.nD Cert.FiltIdeal.τ).loc Cert.FiltIdeal.main_arg0)
      ∧ m' ((c.tc : Thread Cert.FiltRefIdeal.nD Cert.FiltRefIdeal.τ).loc Cert.FiltRefIdeal.main_arg1) = m ((c.tc : Thread Cert.FiltIdeal.nD Cert.FiltIdeal.τ).loc Cert.FiltIdeal.main_arg1)
      ∧ m' ((c.tc : Thread Cert.FiltRefIdeal.nD Cert.FiltRefIdeal.τ).loc Cert.FiltRefIdeal.main_arg2) = m ((c.tc : Thread Cert.FiltIdeal.nD Cert.FiltIdeal.τ).loc Cert.FiltIdeal.main_arg2)
      ∧ m' ((c.tc : Thread Cert.FiltRefIdeal.nD Cert.FiltRefIdeal.τ).loc Cert.FiltRefIdeal.main_arg3) = m ((c.tc : Thread Cert.FiltIdeal.nD Cert.FiltIdeal.τ).loc Cert.FiltIdeal.main_arg3)
      ∧ m' ((c.tc : Thread Cert.FiltRefIdeal.nD Cert.FiltRefIdeal.τ).loc Cert.FiltRefIdeal.main_arg4) = m ((c.tc : Thread Cert.FiltIdeal.nD Cert.FiltIdeal.τ).loc Cert.FiltIdeal.main_arg4)) →
    ∃ (v0 : (c : Dev Cert.FiltIdeal.nD) → Buf (Elt Ideal) ((c.tc : Thread Cert.FiltIdeal.nD Cert.FiltIdeal.τ).loc Cert.FiltIdeal.main_v28_0)) (v1 : (c : Dev Cert.FiltIdeal.nD) → Buf (Elt Ideal) ((c.tc : Thread Cert.FiltIdeal.nD Cert.FiltIdeal.τ).loc Cert.FiltIdeal.main_v28_1)),
      θ_run (Cert.FiltIdeal.defs (F := Ideal)) (onTc (τ := Cert.FiltIdeal.τ) (Cert.FiltIdeal.main (F := Ideal))) ⟨m, fun _ => 0, g⟩ (fun r => ∀ c : Dev Cert.FiltIdeal.nD,
          r.2.mem ((c.tc : Thread Cert.FiltIdeal.nD Cert.FiltIdeal.τ).loc Cert.FiltIdeal.main_v28_0) = v0 c
          ∧ r.2.mem ((c.tc : Thread Cert.FiltIdeal.nD Cert.FiltIdeal.τ).loc Cert.FiltIdeal.main_v28_1) = v1 c
          ∧ r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
          ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
          ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2)
          ∧ r.2.mem ((c.tc : Thread Cert.FiltIdeal.nD Cert.FiltIdeal.τ).loc Cert.FiltIdeal.main_arg3) = m ((c.tc : Thread Cert.FiltIdeal.nD Cert.FiltIdeal.τ).loc Cert.FiltIdeal.main_arg3)
          ∧ r.2.mem ((c.tc : Thread Cert.FiltIdeal.nD Cert.FiltIdeal.τ).loc Cert.FiltIdeal.main_arg4) = m ((c.tc : Thread Cert.FiltIdeal.nD Cert.FiltIdeal.τ).loc Cert.FiltIdeal.main_arg4))
      ∧ θ_run (Cert.FiltRefIdeal.defs (F := Ideal)) (onTc (τ := Cert.FiltRefIdeal.τ) (Cert.FiltRefIdeal.main (F := Ideal))) ⟨m', fun _ => 0, g'⟩ (fun r => ∀ c : Dev Cert.FiltRefIdeal.nD,
          r.2.mem ((c.tc : Thread Cert.FiltRefIdeal.nD Cert.FiltRefIdeal.τ).loc Cert.FiltRefIdeal.main_v87) = v0 c
          ∧ r.2.mem ((c.tc : Thread Cert.FiltRefIdeal.nD Cert.FiltRefIdeal.τ).loc Cert.FiltRefIdeal.main_v88) = v1 c
          ∧ r.2.mem ((c.tc : Thread Cert.FiltRefIdeal.nD Cert.FiltRefIdeal.τ).loc Cert.FiltRefIdeal.main_arg0) = m' ((c.tc : Thread Cert.FiltRefIdeal.nD Cert.FiltRefIdeal.τ).loc Cert.FiltRefIdeal.main_arg0)
          ∧ r.2.mem ((c.tc : Thread Cert.FiltRefIdeal.nD Cert.FiltRefIdeal.τ).loc Cert.FiltRefIdeal.main_arg1) = m' ((c.tc : Thread Cert.FiltRefIdeal.nD Cert.FiltRefIdeal.τ).loc Cert.FiltRefIdeal.main_arg1)
          ∧ r.2.mem ((c.tc : Thread Cert.FiltRefIdeal.nD Cert.FiltRefIdeal.τ).loc Cert.FiltRefIdeal.main_arg2) = m' ((c.tc : Thread Cert.FiltRefIdeal.nD Cert.FiltRefIdeal.τ).loc Cert.FiltRefIdeal.main_arg2)
          ∧ r.2.mem ((c.tc : Thread Cert.FiltRefIdeal.nD Cert.FiltRefIdeal.τ).loc Cert.FiltRefIdeal.main_arg3) = m' ((c.tc : Thread Cert.FiltRefIdeal.nD Cert.FiltRefIdeal.τ).loc Cert.FiltRefIdeal.main_arg3)
          ∧ r.2.mem ((c.tc : Thread Cert.FiltRefIdeal.nD Cert.FiltRefIdeal.τ).loc Cert.FiltRefIdeal.main_arg4) = m' ((c.tc : Thread Cert.FiltRefIdeal.nD Cert.FiltRefIdeal.τ).loc Cert.FiltRefIdeal.main_arg4))

def preserves_Dft_DftIdeal : Prop :=
  True

def algebraic_DftIdeal_DftRefIdeal [hDftIdeal : Cert.DftIdeal.Facts] [hDftRefIdeal : Cert.DftRefIdeal.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.DftRefIdeal.nD Cert.DftRefIdeal.τ Cert.DftRefIdeal.sig) → Buf (Elt Ideal) ℓ) (g' : Dev Cert.DftRefIdeal.nD → PrngReg), Pre_DftIdeal m →
    (∀ c : Dev Cert.DftIdeal.nD,
      m' ((c.tc : Thread Cert.DftRefIdeal.nD Cert.DftRefIdeal.τ).loc Cert.DftRefIdeal.main_arg0) = m ((c.tc : Thread Cert.DftIdeal.nD Cert.DftIdeal.τ).loc Cert.DftIdeal.main_arg0)) →
    ∃ (v0 : (c : Dev Cert.DftIdeal.nD) → Buf (Elt Ideal) ((c.tc : Thread Cert.DftIdeal.nD Cert.DftIdeal.τ).loc Cert.DftIdeal.main_v54)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v54) = v0 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0))
      ∧ θ_run (Cert.DftRefIdeal.defs (F := Ideal)) (onTc (τ := Cert.DftRefIdeal.τ) (Cert.DftRefIdeal.main (F := Ideal))) ⟨m', fun _ => 0, g'⟩ (fun r => ∀ c : Dev Cert.DftRefIdeal.nD,
          r.2.mem ((c.tc : Thread Cert.DftRefIdeal.nD Cert.DftRefIdeal.τ).loc Cert.DftRefIdeal.main_v18) = v0 c
          ∧ r.2.mem ((c.tc : Thread Cert.DftRefIdeal.nD Cert.DftRefIdeal.τ).loc Cert.DftRefIdeal.main_arg0) = m' ((c.tc : Thread Cert.DftRefIdeal.nD Cert.DftRefIdeal.τ).loc Cert.DftRefIdeal.main_arg0))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)) →
    ∃ (v0 : (c : Dev Cert.PairIdeal.nD) → Buf (Elt Ideal) ((c.tc : Thread Cert.PairIdeal.nD Cert.PairIdeal.τ).loc Cert.PairIdeal.main_v54)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v54) = v0 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v28) = v0 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hResid : Cert.Resid.Facts) (hResidIdeal : Cert.ResidIdeal.Facts) (hResidRefIdeal : Cert.ResidRefIdeal.Facts) (hMemKv : Cert.MemKv.Facts) (hMemKvIdeal : Cert.MemKvIdeal.Facts) (hMemKvRefIdeal : Cert.MemKvRefIdeal.Facts) (hMemAttn : Cert.MemAttn.Facts) (hMemAttnIdeal : Cert.MemAttnIdeal.Facts) (hMemAttnRefIdeal : Cert.MemAttnRefIdeal.Facts) (hConv : Cert.Conv.Facts) (hConvIdeal : Cert.ConvIdeal.Facts) (hConvRefIdeal : Cert.ConvRefIdeal.Facts) (hFilt : Cert.Filt.Facts) (hFiltIdeal : Cert.FiltIdeal.Facts) (hFiltRefIdeal : Cert.FiltRefIdeal.Facts) (hDft : Cert.Dft.Facts) (hDftIdeal : Cert.DftIdeal.Facts) (hDftRefIdeal : Cert.DftRefIdeal.Facts) (hPair : Cert.Pair.Facts) (hPairIdeal : Cert.PairIdeal.Facts) (hPairRefIdeal : Cert.PairRefIdeal.Facts),
    quiescent_Attn (hAttn := hAttn)
    ∧ quiescent_AttnIdeal (hAttnIdeal := hAttnIdeal)
    ∧ quiescent_AttnRefIdeal (hAttnRefIdeal := hAttnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Resid (hResid := hResid)
    ∧ quiescent_ResidIdeal (hResidIdeal := hResidIdeal)
    ∧ quiescent_ResidRefIdeal (hResidRefIdeal := hResidRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ quiescent_Conv (hConv := hConv)
    ∧ quiescent_ConvIdeal (hConvIdeal := hConvIdeal)
    ∧ quiescent_ConvRefIdeal (hConvRefIdeal := hConvRefIdeal)
    ∧ quiescent_Filt (hFilt := hFilt)
    ∧ quiescent_FiltIdeal (hFiltIdeal := hFiltIdeal)
    ∧ quiescent_FiltRefIdeal (hFiltRefIdeal := hFiltRefIdeal)
    ∧ quiescent_Dft (hDft := hDft)
    ∧ quiescent_DftIdeal (hDftIdeal := hDftIdeal)
    ∧ quiescent_DftRefIdeal (hDftRefIdeal := hDftRefIdeal)
    ∧ quiescent_Pair (hPair := hPair)
    ∧ quiescent_PairIdeal (hPairIdeal := hPairIdeal)
    ∧ quiescent_PairRefIdeal (hPairRefIdeal := hPairRefIdeal)
    ∧ preserves_Attn_AttnIdeal
    ∧ algebraic_AttnIdeal_AttnRefIdeal (hAttnIdeal := hAttnIdeal) (hAttnRefIdeal := hAttnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Resid_ResidIdeal
    ∧ algebraic_ResidIdeal_ResidRefIdeal (hResidIdeal := hResidIdeal) (hResidRefIdeal := hResidRefIdeal)
    ∧ preserves_MemKv_MemKvIdeal
    ∧ algebraic_MemKvIdeal_MemKvRefIdeal (hMemKvIdeal := hMemKvIdeal) (hMemKvRefIdeal := hMemKvRefIdeal)
    ∧ preserves_MemAttn_MemAttnIdeal
    ∧ algebraic_MemAttnIdeal_MemAttnRefIdeal (hMemAttnIdeal := hMemAttnIdeal) (hMemAttnRefIdeal := hMemAttnRefIdeal)
    ∧ preserves_Conv_ConvIdeal
    ∧ algebraic_ConvIdeal_ConvRefIdeal (hConvIdeal := hConvIdeal) (hConvRefIdeal := hConvRefIdeal)
    ∧ preserves_Filt_FiltIdeal
    ∧ algebraic_FiltIdeal_FiltRefIdeal (hFiltIdeal := hFiltIdeal) (hFiltRefIdeal := hFiltRefIdeal)
    ∧ preserves_Dft_DftIdeal
    ∧ algebraic_DftIdeal_DftRefIdeal (hDftIdeal := hDftIdeal) (hDftRefIdeal := hDftRefIdeal)
    ∧ preserves_Pair_PairIdeal
    ∧ algebraic_PairIdeal_PairRefIdeal (hPairIdeal := hPairIdeal) (hPairRefIdeal := hPairRefIdeal)
-- ==== Attn.lean ====
abbrev S3x16384x768 : Shape := ⟨3, ![3, 16384, 768]⟩
abbrev S32x8 : Shape := ⟨2, ![32, 8]⟩
abbrev S8 : Shape := ⟨1, ![8]⟩
abbrev S384 : Shape := ⟨1, ![384]⟩
abbrev S_ : Shape := ⟨0, ![]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S1x128x384 : Shape := ⟨3, ![1, 128, 384]⟩
abbrev S3x16384x512 : Shape := ⟨3, ![3, 16384, 512]⟩
abbrev S1x512x512 : Shape := ⟨3, ![1, 512, 512]⟩
abbrev S1x128x128 : Shape := ⟨3, ![1, 128, 128]⟩
abbrev S1x512x128 : Shape := ⟨3, ![1, 512, 128]⟩
abbrev S512x512 : Shape := ⟨2, ![512, 512]⟩
abbrev S128x128 : Shape := ⟨2, ![128, 128]⟩
abbrev S512x128 : Shape := ⟨2, ![512, 128]⟩
abbrev S768x128 : Shape := ⟨2, ![768, 128]⟩
abbrev S384x128 : Shape := ⟨2, ![384, 128]⟩
abbrev S128x64 : Shape := ⟨2, ![128, 64]⟩
abbrev S384x64 : Shape := ⟨2, ![384, 64]⟩
abbrev S1 : Shape := ⟨1, ![1]⟩
abbrev S1x128x64 : Shape := ⟨3, ![1, 128, 64]⟩

abbrev nBuf : Space → Nat
  | .hbm => 70
  | .vmem => 17
  | .smem => 1
  | _ => 0

abbrev bufTy : (tb : Table) → Fin (tcTables nBuf tb) → BufTy
  | .hbm, ⟨0, _⟩ => ⟨S3x16384x768, .f32⟩
  | .hbm, ⟨1, _⟩ => ⟨S32x8, .f32⟩
  | .hbm, ⟨2, _⟩ => ⟨S8, .f32⟩
  | .hbm, ⟨3, _⟩ => ⟨S384, .i32⟩
  | .hbm, ⟨4, _⟩ => ⟨S_, .i32⟩
  | .hbm, ⟨5, _⟩ => ⟨S384, .i32⟩
  | .hbm, ⟨6, _⟩ => ⟨S384, .i32⟩
  | .hbm, ⟨7, _⟩ => ⟨S1x384, .i32⟩
  | .hbm, ⟨8, _⟩ => ⟨S128, .i32⟩
  | .hbm, ⟨9, _⟩ => ⟨S128x1, .i32⟩
  | .hbm, ⟨10, _⟩ => ⟨S128x384, .i32⟩
  | .hbm, ⟨11, _⟩ => ⟨S128x384, .i32⟩
  | .hbm, ⟨12, _⟩ => ⟨S128x384, .i32⟩
  | .hbm, ⟨13, _⟩ => ⟨S_, .i32⟩
  | .hbm, ⟨14, _⟩ => ⟨S128x384, .i32⟩
  | .hbm, ⟨15, _⟩ => ⟨S128x384, .i1⟩
  | .hbm, ⟨16, _⟩ => ⟨S_, .i32⟩
  | .hbm, ⟨17, _⟩ => ⟨S_, .i32⟩
  | .hbm, ⟨18, _⟩ => ⟨S128x384, .i32⟩
  | .hbm, ⟨19, _⟩ => ⟨S128x384, .i32⟩
  | .hbm, ⟨20, _⟩ => ⟨S128x384, .i32⟩
  | .hbm, ⟨21, _⟩ => ⟨S128x384, .i32⟩
  | .hbm, ⟨22, _⟩ => ⟨S_, .i32⟩
  | .hbm, ⟨23, _⟩ => ⟨S128x384, .i32⟩
  | .hbm, ⟨24, _⟩ => ⟨S128x384, .i32⟩
  | .hbm, ⟨25, _⟩ => ⟨S128x384, .f32⟩
  | .hbm, ⟨26, _⟩ => ⟨S_, .f32⟩
  | .hbm, ⟨27, _⟩ => ⟨S128x384, .f32⟩
  | .hbm, ⟨28, _⟩ => ⟨S128x384, .f32⟩
  | .hbm, ⟨29, _⟩ => ⟨S128x384, .f32⟩
  | .hbm, ⟨30, _⟩ => ⟨S_, .f32⟩
  | .hbm, ⟨31, _⟩ => ⟨S128x384, .f32⟩
  | .hbm, ⟨32, _⟩ => ⟨S128x384, .f32⟩
  | .hbm, ⟨33, _⟩ => ⟨S_, .f32⟩
  | .hbm, ⟨34, _⟩ => ⟨S128x384, .f32⟩
  | .hbm, ⟨35, _⟩ => ⟨S128x384, .f32⟩
  | .hbm, ⟨36, _⟩ => ⟨S128x384, .i32⟩
  | .hbm, ⟨37, _⟩ => ⟨S_, .i32⟩
  | .hbm, ⟨38, _⟩ => ⟨S128x384, .i32⟩
  | .hbm, ⟨39, _⟩ => ⟨S128x384, .i32⟩
  | .hbm, ⟨40, _⟩ => ⟨S_, .i32⟩
  | .hbm, ⟨41, _⟩ => ⟨S128x384, .i32⟩
  | .hbm, ⟨42, _⟩ => ⟨S128x384, .i32⟩
  | .hbm, ⟨43, _⟩ => ⟨S_, .i32⟩
  | .hbm, ⟨44, _⟩ => ⟨S128x384, .i32⟩
  | .hbm, ⟨45, _⟩ => ⟨S128x384, .i1⟩
  | .hbm, ⟨46, _⟩ => ⟨S128x384, .i32⟩
  | .hbm, ⟨47, _⟩ => ⟨S128x384, .i32⟩
  | .hbm, ⟨48, _⟩ => ⟨S128x384, .i32⟩
  | .hbm, ⟨49, _⟩ => ⟨S_, .i32⟩
  | .hbm, ⟨50, _⟩ => ⟨S128x384, .i32⟩
  | .hbm, ⟨51, _⟩ => ⟨S128x384, .i1⟩
  | .hbm, ⟨52, _⟩ => ⟨S_, .i32⟩
  | .hbm, ⟨53, _⟩ => ⟨S128x384, .i32⟩
  | .hbm, ⟨54, _⟩ => ⟨S128x384, .i32⟩
  | .hbm, ⟨55, _⟩ => ⟨S128x384, .i32⟩
  | .hbm, ⟨56, _⟩ => ⟨S128x384x1, .i32⟩
  | .hbm, ⟨57, _⟩ => ⟨S128x384x8, .f32⟩
  | .hbm, ⟨58, _⟩ => ⟨S8x128x384, .f32⟩
  | .hbm, ⟨59, _⟩ => ⟨S128x384, .i32⟩
  | .hbm, ⟨60, _⟩ => ⟨S_, .i32⟩
  | .hbm, ⟨61, _⟩ => ⟨S128x384, .i32⟩
  | .hbm, ⟨62, _⟩ => ⟨S128x384, .i1⟩
  | .hbm, ⟨63, _⟩ => ⟨S1x128x384, .i1⟩
  | .hbm, ⟨64, _⟩ => ⟨S_, .f32⟩
  | .hbm, ⟨65, _⟩ => ⟨S_, .f32⟩
  | .hbm, ⟨66, _⟩ => ⟨S8x128x384, .i1⟩
  | .hbm, ⟨67, _⟩ => ⟨S8x128x384, .f32⟩
  | .hbm, ⟨68, _⟩ => ⟨S8x128x384, .f32⟩
  | .hbm, ⟨69, _⟩ => ⟨S3x16384x512, .bf16⟩
  | .local _ .vmem, ⟨0, _⟩ => ⟨S1x512x512, .f32⟩
  | .local _ .vmem, ⟨1, _⟩ => ⟨S1x512x512, .f32⟩
  | .local _ .vmem, ⟨2, _⟩ => ⟨S1x128x128, .f32⟩
  | .local _ .vmem, ⟨3, _⟩ => ⟨S1x128x128, .f32⟩
  | .local _ .vmem, ⟨4, _⟩ => ⟨S1x512x128, .f32⟩
  | .local _ .vmem, ⟨5, _⟩ => ⟨S1x512x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x512x128, .f32⟩
  | .local _ .vmem, ⟨11, _⟩ => ⟨S1x512x128, .f32⟩
  | .local _ .vmem, ⟨12, _⟩ => ⟨S1x128x128, .f32⟩
  | .local _ .vmem, ⟨13, _⟩ => ⟨S1x128x128, .f32⟩
  | .local _ .vmem, ⟨14, _⟩ => ⟨S8x128x384, .f32⟩
  | .local _ .vmem, ⟨15, _⟩ => ⟨S1x512x512, .bf16⟩
  | .local _ .vmem, ⟨16, _⟩ => ⟨S1x512x512, .bf16⟩
  | .local _ .smem, ⟨0, _⟩ => ⟨S8, .f32⟩
  | _, _ => ⟨S3x16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v45 : Ref sig .tc := ⟨.hbm, 68, rfl⟩
abbrev main_v46 : Ref sig .tc := ⟨.hbm, 69, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![3, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![arg0.toNat, v2.toNat, c4_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c127_i32 : BitVec 32 := 127#32
  let v2 : BitVec 32 := Scalar.minsi v1 c127_i32
  let c4_i32_0 : BitVec 32 := 4#32
  let c0_i32 : BitVec 32 := 0#32
  ![arg0.toNat, v2.toNat, c4_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c127_i32 : BitVec 32 := 127#32
  let v2 : BitVec 32 := Scalar.minsi v1 c127_i32
  let c5_i32 : BitVec 32 := 5#32
  let c0_i32 : BitVec 32 := 0#32
  ![arg0.toNat, v2.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S3x16384x768 : Shape := ⟨3, ![3, 16384, 768]⟩
abbrev S32x8 : Shape := ⟨2, ![32, 8]⟩
abbrev S8 : Shape := ⟨1, ![8]⟩
abbrev S3x16384x512 : Shape := ⟨3, ![3, 16384, 512]⟩
abbrev S3x16384x8x64 : Shape := ⟨4, ![3, 16384, 8, 64]⟩
abbrev S3x16384x128 : Shape := ⟨3, ![3, 16384, 128]⟩
abbrev S3x16384x2x64 : Shape := ⟨4, ![3, 16384, 2, 64]⟩
abbrev S3x128x128x2x4x64 : Shape := ⟨6, ![3, 128, 128, 2, 4, 64]⟩
abbrev S_ : Shape := ⟨0, ![]⟩
abbrev S3x16640x2x64 : Shape := ⟨4, ![3, 16640, 2, 64]⟩
abbrev S3x130x128x2x64 : Shape := ⟨5, ![3, 130, 128, 2, 64]⟩
abbrev S3x128x128x2x64 : Shape := ⟨5, ![3, 128, 128, 2, 64]⟩
abbrev S3x128x384x2x64 : Shape := ⟨5, ![3, 128, 384, 2, 64]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S128x1x384 : Shape := ⟨3, ![128, 1, 384]⟩
abbrev S1x128x384 : Shape := ⟨3, ![1, 128, 384]⟩
abbrev S128x128x384 : Shape := ⟨3, ![128, 128, 384]⟩
abbrev S3x128x2x384x128x4 : Shape := ⟨6, ![3, 128, 2, 384, 128, 4]⟩
abbrev S3x128x2x4x128x384 : Shape := ⟨6, ![3, 128, 2, 4, 128, 384]⟩
abbrev S1x1x2x4x128x384 : Shape := ⟨6, ![1, 1, 2, 4, 128, 384]⟩
abbrev S1x128x1x1x128x384 : Shape := ⟨6, ![1, 128, 1, 1, 128, 384]⟩
abbrev S2x4 : Shape := ⟨2, ![2, 4]⟩
abbrev S1x1x2x4x1x1 : Shape := ⟨6, ![1, 1, 2, 4, 1, 1]⟩
abbrev S3x128x2x4x128 : Shape := ⟨5, ![3, 128, 2, 4, 128]⟩
abbrev S3x128x2x4x128x1 : Shape := ⟨6, ![3, 128, 2, 4, 128, 1]⟩
abbrev S3x128x2x64x4x128 : Shape := ⟨6, ![3, 128, 2, 64, 4, 128]⟩

abbrev nBuf : Space → Nat
  | .hbm => 145
  | .vmem => 0
  | .smem => 0
  | _ => 0

abbrev hbmTy0_0 (i : Nat) : BufTy := match i % 128 with
  | 0 => ⟨S3x16384x768, .f32⟩
  | 1 => ⟨S32x8, .f32⟩
  | 2 => ⟨S8, .f32⟩
  | 3 => ⟨S3x16384x512, .f32⟩
  | 4 => ⟨S3x16384x8x64, .f32⟩
  | 5 => ⟨S3x16384x128, .f32⟩
  | 6 => ⟨S3x16384x2x64, .f32⟩
  | 7 => ⟨S3x16384x128, .f32⟩
  | 8 => ⟨S3x16384x2x64, .f32⟩
  | 9 => ⟨S3x128x128x2x4x64, .f32⟩
  | 10 => ⟨S_, .i32⟩
  | 11 => ⟨S_, .f32⟩
  | 12 => ⟨S3x16640x2x64, .f32⟩
  | 13 => ⟨S3x130x128x2x64, .f32⟩
  | 14 => ⟨S_, .i32⟩
  | 15 => ⟨S_, .f32⟩
  | 16 => ⟨S3x16640x2x64, .f32⟩
  | 17 => ⟨S3x130x128x2x64, .f32⟩
  | 18 => ⟨S3x128x128x2x64, .f32⟩
  | 19 => ⟨S3x128x128x2x64, .f32⟩
  | 20 => ⟨S3x128x128x2x64, .f32⟩
  | 21 => ⟨S3x128x384x2x64, .f32⟩
  | 22 => ⟨S3x128x128x2x64, .f32⟩
  | 23 => ⟨S3x128x128x2x64, .f32⟩
  | 24 => ⟨S3x128x128x2x64, .f32⟩
  | 25 => ⟨S3x128x384x2x64, .f32⟩
  | 26 => ⟨S128, .i32⟩
  | 27 => ⟨S384, .i32⟩
  | 28 => ⟨S_, .i32⟩
  | 29 => ⟨S384, .i32⟩
  | 30 => ⟨S384, .i32⟩
  | 31 => ⟨S1x384, .i32⟩
  | 32 => ⟨S128x1, .i32⟩
  | 33 => ⟨S128x384, .i32⟩
  | 34 => ⟨S128x384, .i32⟩
  | 35 => ⟨S128x384, .i32⟩
  | 36 => ⟨S_, .i32⟩
  | 37 => ⟨S128x384, .i32⟩
  | 38 => ⟨S128x384, .i1⟩
  | 39 => ⟨S_, .i32⟩
  | 40 => ⟨S_, .i32⟩
  | 41 => ⟨S128x384, .i32⟩
  | 42 => ⟨S128x384, .i32⟩
  | 43 => ⟨S128x384, .i32⟩
  | 44 => ⟨S128x384, .i32⟩
  | 45 => ⟨S_, .i32⟩
  | 46 => ⟨S128x384, .i32⟩
  | 47 => ⟨S128x384, .i32⟩
  | 48 => ⟨S128x384, .f32⟩
  | 49 => ⟨S_, .f32⟩
  | 50 => ⟨S128x384, .f32⟩
  | 51 => ⟨S128x384, .f32⟩
  | 52 => ⟨S128x384, .f32⟩
  | 53 => ⟨S_, .f32⟩
  | 54 => ⟨S128x384, .f32⟩
  | 55 => ⟨S128x384, .f32⟩
  | 56 => ⟨S_, .f32⟩
  | 57 => ⟨S128x384, .f32⟩
  | 58 => ⟨S128x384, .f32⟩
  | 59 => ⟨S128x384, .i32⟩
  | 60 => ⟨S_, .i32⟩
  | 61 => ⟨S128x384, .i32⟩
  | 62 => ⟨S128x384, .i32⟩
  | 63 => ⟨S_, .i32⟩
  | 64 => ⟨S128x384, .i32⟩
  | 65 => ⟨S128x384, .i32⟩
  | 66 => ⟨S_, .i32⟩
  | 67 => ⟨S128x384, .i32⟩
  | 68 => ⟨S128x384, .i1⟩
  | 69 => ⟨S128x384, .i32⟩
  | 70 => ⟨S128x384, .i32⟩
  | 71 => ⟨S128x384, .i32⟩
  | 72 => ⟨S_, .i32⟩
  | 73 => ⟨S128x384, .i32⟩
  | 74 => ⟨S128x384, .i1⟩
  | 75 => ⟨S_, .i32⟩
  | 76 => ⟨S128x384, .i32⟩
  | 77 => ⟨S128x384, .i32⟩
  | 78 => ⟨S128x384, .i32⟩
  | 79 => ⟨S128x384x1, .i32⟩
  | 80 => ⟨S128x384x8, .f32⟩
  | 81 => ⟨S8x128x384, .f32⟩
  | 82 => ⟨S2x4x128x384, .f32⟩
  | 83 => ⟨S128, .i32⟩
  | 84 => ⟨S_, .i32⟩
  | 85 => ⟨S128, .i32⟩
  | 86 => ⟨S128, .i32⟩
  | 87 => ⟨S128x1, .i32⟩
  | 88 => ⟨S1x384, .i32⟩
  | 89 => ⟨S128x384, .i32⟩
  | 90 => ⟨S128x384, .i32⟩
  | 91 => ⟨S128x384, .i32⟩
  | 92 => ⟨S_, .i32⟩
  | 93 => ⟨S128x384, .i32⟩
  | 94 => ⟨S128x384, .i1⟩
  | 95 => ⟨S_, .i32⟩
  | 96 => ⟨S128x384, .i32⟩
  | 97 => ⟨S128x384, .i1⟩
  | 98 => ⟨S128x384, .i1⟩
  | 99 => ⟨S128x1x384, .i1⟩
  | 100 => ⟨S128x384, .i32⟩
  | 101 => ⟨S_, .i32⟩
  | 102 => ⟨S128x384, .i32⟩
  | 103 => ⟨S128x384, .i1⟩
  | 104 => ⟨S1x128x384, .i1⟩
  | 105 => ⟨S128x128x384, .i1⟩
  | 106 => ⟨S128x128x384, .i1⟩
  | 107 => ⟨S128x128x384, .i1⟩
  | 108 => ⟨S3x128x2x384x128x4, .f32⟩
  | 109 => ⟨S3x128x2x4x128x384, .f32⟩
  | 110 => ⟨S_, .f32⟩
  | 111 => ⟨S3x128x2x4x128x384, .f32⟩
  | 112 => ⟨S3x128x2x4x128x384, .f32⟩
  | 113 => ⟨S1x1x2x4x128x384, .f32⟩
  | 114 => ⟨S3x128x2x4x128x384, .f32⟩
  | 115 => ⟨S3x128x2x4x128x384, .f32⟩
  | 116 => ⟨S1x128x1x1x128x384, .i1⟩
  | 117 => ⟨S_, .f32⟩
  | 118 => ⟨S_, .f32⟩
  | 119 => ⟨S3x128x2x4x128x384, .i1⟩
  | 120 => ⟨S3x128x2x4x128x384, .f32⟩
  | 121 => ⟨S3x128x2x4x128x384, .f32⟩
  | 122 => ⟨S2x4, .f32⟩
  | 123 => ⟨S1x1x2x4x1x1, .f32⟩
  | 124 => ⟨S_, .f32⟩
  | 125 => ⟨S3x128x2x4x128, .f32⟩
  | 126 => ⟨S3x128x2x4x128x1, .f32⟩
  | 127 => ⟨S3x128x2x4x128x1, .f32⟩
  | _ => ⟨S3x16384x768, .f32⟩

abbrev hbmTy0_1 (i : Nat) : BufTy := match i % 128 with
  | 0 => ⟨S3x128x2x4x128x1, .f32⟩
  | 1 => ⟨S3x128x2x4x128x384, .f32⟩
  | 2 => ⟨S3x128x2x4x128x384, .f32⟩
  | 3 => ⟨S3x128x2x4x128x384, .f32⟩
  | 4 => ⟨S_, .f32⟩
  | 5 => ⟨S3x128x2x4x128, .f32⟩
  | 6 => ⟨S3x128x2x4x128x1, .f32⟩
  | 7 => ⟨S3x128x2x4x128x1, .f32⟩
  | 8 => ⟨S3x128x2x4x128x1, .f32⟩
  | 9 => ⟨S3x128x2x4x128x1, .f32⟩
  | 10 => ⟨S3x128x2x4x128x1, .f32⟩
  | 11 => ⟨S3x128x2x4x128x384, .f32⟩
  | 12 => ⟨S3x128x2x4x128x384, .f32⟩
  | 13 => ⟨S3x128x2x64x4x128, .f32⟩
  | 14 => ⟨S3x128x128x2x4x64, .f32⟩
  | 15 => ⟨S3x16384x512, .f32⟩
  | 16 => ⟨S3x16384x512, .bf16⟩
  | _ => ⟨S3x16384x768, .f32⟩

abbrev hbmTy (i : Nat) : BufTy := match i / 128 with
  | 0 => hbmTy0_0 i
  | 1 => hbmTy0_1 i
  | _ => ⟨S3x16384x768, .f32⟩

abbrev bufTy : (tb : Table) → Fin (tcTables nBuf tb) → BufTy
  | .hbm, ⟨i, _⟩ => hbmTy i
  | _, _ => ⟨S3x16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_c_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩

abbrev nD : Nat := 1
abbrev τ : Topo := Topo.v7x

variable {F : FTy → Type} [FloatOps F]
-- ==== Proj.lean ====
abbrev S49152x1024 : Shape := ⟨2, ![49152, 1024]⟩
abbrev S1024x5888 : Shape := ⟨2, ![1024, 5888]⟩
abbrev S5888 : Shape := ⟨1, ![5888]⟩
abbrev S1x5888 : Shape := ⟨2, ![1, 5888]⟩
abbrev S49152x768 : Shape := ⟨2, ![49152, 768]⟩
abbrev S49152x1536 : Shape := ⟨2, ![49152, 1536]⟩
abbrev S49152x512 : Shape := ⟨2, ![49152, 512]⟩
abbrev S49152x3072 : Shape := ⟨2, ![49152, 3072]⟩
abbrev S256x1024 : Shape := ⟨2, ![256, 1024]⟩
abbrev S256x768 : Shape := ⟨2, ![256, 768]⟩
abbrev S256x1536 : Shape := ⟨2, ![256, 1536]⟩
abbrev S256x512 : Shape := ⟨2, ![256, 512]⟩
abbrev S256x3072 : Shape := ⟨2, ![256, 3072]⟩
abbrev S1024x768 : Shape := ⟨2, ![1024, 768]⟩
abbrev S1x768 : Shape := ⟨2, ![1, 768]⟩
abbrev S1024x1536 : Shape := ⟨2, ![1024, 1536]⟩
abbrev S1x1536 : Shape := ⟨2, ![1, 1536]⟩
abbrev S1024x512 : Shape := ⟨2, ![1024, 512]⟩
abbrev S1x512 : Shape := ⟨2, ![1, 512]⟩
abbrev S1024x3072 : Shape := ⟨2, ![1024, 3072]⟩
abbrev S1x3072 : Shape := ⟨2, ![1, 3072]⟩

abbrev nBuf : Space → Nat
  | .hbm => 9
  | .vmem => 12
  | .smem => 0
  | _ => 0

abbrev bufTy : (tb : Table) → Fin (tcTables nBuf tb) → BufTy
  | .hbm, ⟨0, _⟩ => ⟨S49152x1024, .f32⟩
  | .hbm, ⟨1, _⟩ => ⟨S1024x5888, .f32⟩
  | .hbm, ⟨2, _⟩ => ⟨S5888, .f32⟩
  | .hbm, ⟨3, _⟩ => ⟨S1024x5888, .bf16⟩
  | .hbm, ⟨4, _⟩ => ⟨S1x5888, .f32⟩
  | .hbm, ⟨5, _⟩ => ⟨S49152x768, .f32⟩
  | .hbm, ⟨6, _⟩ => ⟨S49152x1536, .f32⟩
  | .hbm, ⟨7, _⟩ => ⟨S49152x512, .f32⟩
  | .hbm, ⟨8, _⟩ => ⟨S49152x3072, .f32⟩
  | .local _ .vmem, ⟨0, _⟩ => ⟨S256x1024, .f32⟩
  | .local _ .vmem, ⟨1, _⟩ => ⟨S256x1024, .f32⟩
  | .local _ .vmem, ⟨2, _⟩ => ⟨S1024x5888, .bf16⟩
  | .local _ .vmem, ⟨3, _⟩ => ⟨S1x5888, .f32⟩
  | .local _ .vmem, ⟨4, _⟩ => ⟨S256x768, .f32⟩
  | .local _ .vmem, ⟨5, _⟩ => ⟨S256x768, .f32⟩
  | .local _ .vmem, ⟨6, _⟩ => ⟨S256x1536, .f32⟩
  | .local _ .vmem, ⟨7, _⟩ => ⟨S256x1536, .f32⟩
  | .local _ .vmem, ⟨8, _⟩ => ⟨S256x512, .f32⟩
  | .local _ .vmem, ⟨9, _⟩ => ⟨S256x512, .f32⟩
  | .local _ .vmem, ⟨10, _⟩ => ⟨S256x3072, .f32⟩
  | .local _ .vmem, ⟨11, _⟩ => ⟨S256x3072, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5888 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5888 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjRefIdeal.lean ====
abbrev S49152x1024 : Shape := ⟨2, ![49152, 1024]⟩
abbrev S1024x5888 : Shape := ⟨2, ![1024, 5888]⟩
abbrev S5888 : Shape := ⟨1, ![5888]⟩
abbrev S49152x5888 : Shape := ⟨2, ![49152, 5888]⟩
abbrev S1x5888 : Shape := ⟨2, ![1, 5888]⟩
abbrev S49152x768 : Shape := ⟨2, ![49152, 768]⟩
abbrev S49152x1536 : Shape := ⟨2, ![49152, 1536]⟩
abbrev S49152x512 : Shape := ⟨2, ![49152, 512]⟩
abbrev S49152x3072 : Shape := ⟨2, ![49152, 3072]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1024x5888, .f32⟩
  | .hbm, ⟨2, _⟩ => ⟨S5888, .f32⟩
  | .hbm, ⟨3, _⟩ => ⟨S49152x5888, .f32⟩
  | .hbm, ⟨4, _⟩ => ⟨S1x5888, .f32⟩
  | .hbm, ⟨5, _⟩ => ⟨S49152x5888, .f32⟩
  | .hbm, ⟨6, _⟩ => ⟨S49152x5888, .f32⟩
  | .hbm, ⟨7, _⟩ => ⟨S49152x768, .f32⟩
  | .hbm, ⟨8, _⟩ => ⟨S49152x1536, .f32⟩
  | .hbm, ⟨9, _⟩ => ⟨S49152x512, .f32⟩
  | .hbm, ⟨10, _⟩ => ⟨S49152x3072, .f32⟩
  | .hbm, ⟨11, _⟩ => ⟨S49152x3072, .f32⟩
  | .hbm, ⟨12, _⟩ => ⟨S49152x3072, .f32⟩
  | .hbm, ⟨13, _⟩ => ⟨S_, .f32⟩
  | .hbm, ⟨14, _⟩ => ⟨S49152x3072, .f32⟩
  | .hbm, ⟨15, _⟩ => ⟨S49152x3072, .f32⟩
  | .hbm, ⟨16, _⟩ => ⟨S_, .f32⟩
  | .hbm, ⟨17, _⟩ => ⟨S49152x3072, .f32⟩
  | .hbm, ⟨18, _⟩ => ⟨S49152x3072, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Merge.lean ====
abbrev S49152x512 : Shape := ⟨2, ![49152, 512]⟩
abbrev S49152x3072 : Shape := ⟨2, ![49152, 3072]⟩
abbrev S49152x1024 : Shape := ⟨2, ![49152, 1024]⟩
abbrev S3x512x1024 : Shape := ⟨3, ![3, 512, 1024]⟩
abbrev S1024x1024 : Shape := ⟨2, ![1024, 1024]⟩
abbrev S1024 : Shape := ⟨1, ![1024]⟩
abbrev S1x1024 : Shape := ⟨2, ![1, 1024]⟩
abbrev S256x512 : Shape := ⟨2, ![256, 512]⟩
abbrev S256x3072 : Shape := ⟨2, ![256, 3072]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S49152x512, .bf16⟩
  | .hbm, ⟨1, _⟩ => ⟨S49152x512, .f32⟩
  | .hbm, ⟨2, _⟩ => ⟨S49152x512, .bf16⟩
  | .hbm, ⟨3, _⟩ => ⟨S49152x3072, .f32⟩
  | .hbm, ⟨4, _⟩ => ⟨S49152x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S3x512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S49152x1024, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x3072, .f32⟩
  | .local _ .vmem, ⟨7, _⟩ => ⟨S256x3072, .f32⟩
  | .local _ .vmem, ⟨8, _⟩ => ⟨S256x1024, .f32⟩
  | .local _ .vmem, ⟨9, _⟩ => ⟨S256x1024, .f32⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S49152x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S49152x512 : Shape := ⟨2, ![49152, 512]⟩
abbrev S49152x3072 : Shape := ⟨2, ![49152, 3072]⟩
abbrev S49152x1024 : Shape := ⟨2, ![49152, 1024]⟩
abbrev S3x512x1024 : Shape := ⟨3, ![3, 512, 1024]⟩
abbrev S1024x1024 : Shape := ⟨2, ![1024, 1024]⟩
abbrev S1024 : Shape := ⟨1, ![1024]⟩
abbrev S49152x3x1024 : Shape := ⟨3, ![49152, 3, 1024]⟩
abbrev S49152x1x1024 : Shape := ⟨3, ![49152, 1, 1024]⟩
abbrev S1x512x1024 : Shape := ⟨3, ![1, 512, 1024]⟩
abbrev S512x1024 : Shape := ⟨2, ![512, 1024]⟩
abbrev S_ : Shape := ⟨0, ![]⟩
abbrev S49152 : Shape := ⟨1, ![49152]⟩
abbrev S49152x1 : Shape := ⟨2, ![49152, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S49152x512, .bf16⟩
  | .hbm, ⟨1, _⟩ => ⟨S49152x512, .f32⟩
  | .hbm, ⟨2, _⟩ => ⟨S49152x512, .bf16⟩
  | .hbm, ⟨3, _⟩ => ⟨S49152x3072, .f32⟩
  | .hbm, ⟨4, _⟩ => ⟨S49152x1024, .f32⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S49152x3x1024, .f32⟩
  | .hbm, ⟨10, _⟩ => ⟨S49152x512, .f32⟩
  | .hbm, ⟨11, _⟩ => ⟨S49152x512, .f32⟩
  | .hbm, ⟨12, _⟩ => ⟨S49152x1x1024, .f32⟩
  | .hbm, ⟨13, _⟩ => ⟨S49152x1024, .f32⟩
  | .hbm, ⟨14, _⟩ => ⟨S1x512x1024, .f32⟩
  | .hbm, ⟨15, _⟩ => ⟨S512x1024, .f32⟩
  | .hbm, ⟨16, _⟩ => ⟨S49152x1024, .f32⟩
  | .hbm, ⟨17, _⟩ => ⟨S49152x1024, .f32⟩
  | .hbm, ⟨18, _⟩ => ⟨S49152x1x1024, .f32⟩
  | .hbm, ⟨19, _⟩ => ⟨S49152x1024, .f32⟩
  | .hbm, ⟨20, _⟩ => ⟨S1x512x1024, .f32⟩
  | .hbm, ⟨21, _⟩ => ⟨S512x1024, .f32⟩
  | .hbm, ⟨22, _⟩ => ⟨S49152x1024, .f32⟩
  | .hbm, ⟨23, _⟩ => ⟨S49152x1024, .f32⟩
  | .hbm, ⟨24, _⟩ => ⟨S49152x1024, .f32⟩
  | .hbm, ⟨25, _⟩ => ⟨S49152x1x1024, .f32⟩
  | .hbm, ⟨26, _⟩ => ⟨S49152x1024, .f32⟩
  | .hbm, ⟨27, _⟩ => ⟨S1x512x1024, .f32⟩
  | .hbm, ⟨28, _⟩ => ⟨S512x1024, .f32⟩
  | .hbm, ⟨29, _⟩ => ⟨S49152x1024, .f32⟩
  | .hbm, ⟨30, _⟩ => ⟨S49152x1024, .f32⟩
  | .hbm, ⟨31, _⟩ => ⟨S49152x1024, .f32⟩
  | .hbm, ⟨32, _⟩ => ⟨S_, .f32⟩
  | .hbm, ⟨33, _⟩ => ⟨S49152x1024, .f32⟩
  | .hbm, ⟨34, _⟩ => ⟨S49152x1024, .f32⟩
  | .hbm, ⟨35, _⟩ => ⟨S49152x1024, .f32⟩
  | .hbm, ⟨36, _⟩ => ⟨S49152x1024, .f32⟩
  | .hbm, ⟨37, _⟩ => ⟨S_, .f32⟩
  | .hbm, ⟨38, _⟩ => ⟨S49152, .f32⟩
  | .hbm, ⟨39, _⟩ => ⟨S49152x1, .f32⟩
  | .hbm, ⟨40, _⟩ => ⟨S_, .f32⟩
  | .hbm, ⟨41, _⟩ => ⟨S49152x1, .f32⟩
  | .hbm, ⟨42, _⟩ => ⟨S49152x1, .f32⟩
  | .hbm, ⟨43, _⟩ => ⟨S49152x1024, .f32⟩
  | .hbm, ⟨44, _⟩ => ⟨S49152x1024, .f32⟩
  | .hbm, ⟨45, _⟩ => ⟨S49152x1024, .f32⟩
  | .hbm, ⟨46, _⟩ => ⟨S_, .f32⟩
  | .hbm, ⟨47, _⟩ => ⟨S49152, .f32⟩
  | .hbm, ⟨48, _⟩ => ⟨S49152x1, .f32⟩
  | .hbm, ⟨49, _⟩ => ⟨S_, .f32⟩
  | .hbm, ⟨50, _⟩ => ⟨S49152x1, .f32⟩
  | .hbm, ⟨51, _⟩ => ⟨S49152x1, .f32⟩
  | .hbm, ⟨52, _⟩ => ⟨S49152x1024, .f32⟩
  | .hbm, ⟨53, _⟩ => ⟨S49152x1024, .f32⟩
  | .hbm, ⟨54, _⟩ => ⟨S_, .f32⟩
  | .hbm, ⟨55, _⟩ => ⟨S49152x1, .f32⟩
  | .hbm, ⟨56, _⟩ => ⟨S49152x1, .f32⟩
  | .hbm, ⟨57, _⟩ => ⟨S49152x1, .f32⟩
  | .hbm, ⟨58, _⟩ => ⟨S49152x1024, .f32⟩
  | .hbm, ⟨59, _⟩ => ⟨S49152x1024, .f32⟩
  | .hbm, ⟨60, _⟩ => ⟨S1x1024, .f32⟩
  | .hbm, ⟨61, _⟩ => ⟨S49152x1024, .f32⟩
  | .hbm, ⟨62, _⟩ => ⟨S49152x1024, .f32⟩
  | .hbm, ⟨63, _⟩ => ⟨S1x1024, .f32⟩
  | .hbm, ⟨64, _⟩ => ⟨S49152x1024, .f32⟩
  | .hbm, ⟨65, _⟩ => ⟨S49152x1024, .f32⟩
  | _, _ => ⟨S49152x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Resid.lean ====
abbrev S49152x1024 : Shape := ⟨2, ![49152, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S49152x1024, .f32⟩
  | .hbm, ⟨1, _⟩ => ⟨S49152x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidRefIdeal.lean ====
abbrev S49152x1024 : Shape := ⟨2, ![49152, 1024]⟩
abbrev S1024 : Shape := ⟨1, ![1024]⟩
abbrev S_ : Shape := ⟨0, ![]⟩
abbrev S49152 : Shape := ⟨1, ![49152]⟩
abbrev S49152x1 : Shape := ⟨2, ![49152, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S49152x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S49152x1024, .f32⟩
  | .hbm, ⟨6, _⟩ => ⟨S49152x1024, .f32⟩
  | .hbm, ⟨7, _⟩ => ⟨S49152x1024, .f32⟩
  | .hbm, ⟨8, _⟩ => ⟨S_, .f32⟩
  | .hbm, ⟨9, _⟩ => ⟨S49152, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S49152x1024, .f32⟩
  | .hbm, ⟨15, _⟩ => ⟨S49152x1024, .f32⟩
  | .hbm, ⟨16, _⟩ => ⟨S49152x1024, .f32⟩
  | .hbm, ⟨17, _⟩ => ⟨S_, .f32⟩
  | .hbm, ⟨18, _⟩ => ⟨S49152, .f32⟩
  | .hbm, ⟨19, _⟩ => ⟨S49152x1, .f32⟩
  | .hbm, ⟨20, _⟩ => ⟨S_, .f32⟩
  | .hbm, ⟨21, _⟩ => ⟨S49152x1, .f32⟩
  | .hbm, ⟨22, _⟩ => ⟨S49152x1, .f32⟩
  | .hbm, ⟨23, _⟩ => ⟨S49152x1024, .f32⟩
  | .hbm, ⟨24, _⟩ => ⟨S49152x1024, .f32⟩
  | .hbm, ⟨25, _⟩ => ⟨S_, .f32⟩
  | .hbm, ⟨26, _⟩ => ⟨S49152x1, .f32⟩
  | .hbm, ⟨27, _⟩ => ⟨S49152x1, .f32⟩
  | .hbm, ⟨28, _⟩ => ⟨S49152x1, .f32⟩
  | .hbm, ⟨29, _⟩ => ⟨S49152x1024, .f32⟩
  | .hbm, ⟨30, _⟩ => ⟨S49152x1024, .f32⟩
  | .hbm, ⟨31, _⟩ => ⟨S1x1024, .f32⟩
  | .hbm, ⟨32, _⟩ => ⟨S49152x1024, .f32⟩
  | .hbm, ⟨33, _⟩ => ⟨S49152x1024, .f32⟩
  | .hbm, ⟨34, _⟩ => ⟨S1x1024, .f32⟩
  | .hbm, ⟨35, _⟩ => ⟨S49152x1024, .f32⟩
  | .hbm, ⟨36, _⟩ => ⟨S49152x1024, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== MemKv.lean ====
abbrev S3x256x1024 : Shape := ⟨3, ![3, 256, 1024]⟩
abbrev S1024x1024 : Shape := ⟨2, ![1024, 1024]⟩
abbrev S768x1024 : Shape := ⟨2, ![768, 1024]⟩
abbrev S_ : Shape := ⟨0, ![]⟩
abbrev S1024 : Shape := ⟨1, ![1024]⟩
abbrev S1x1024 : Shape := ⟨2, ![1, 1024]⟩

abbrev nBuf : Space → Nat
  | .hbm => 8
  | .vmem => 4
  | .smem => 0
  | _ => 0

abbrev bufTy : (tb : Table) → Fin (tcTables nBuf tb) → BufTy
  | .hbm, ⟨0, _⟩ => ⟨S3x256x1024, .f32⟩
  | .hbm, ⟨1, _⟩ => ⟨S1024x1024, .f32⟩
  | .hbm, ⟨2, _⟩ => ⟨S768x1024, .f32⟩
  | .hbm, ⟨3, _⟩ => ⟨S_, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S768x1024, .f32⟩
  | .local _ .vmem, ⟨0, _⟩ => ⟨S768x1024, .f32⟩
  | .local _ .vmem, ⟨1, _⟩ => ⟨S1024x1024, .bf16⟩
  | .local _ .vmem, ⟨2, _⟩ => ⟨S1x1024, .f32⟩
  | .local _ .vmem, ⟨3, _⟩ => ⟨S768x1024, .f32⟩
  | _, _ => ⟨S3x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S768x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S768x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemKvRefIdeal.lean ====
abbrev S3x256x1024 : Shape := ⟨3, ![3, 256, 1024]⟩
abbrev S1024x1024 : Shape := ⟨2, ![1024, 1024]⟩
abbrev S768x1024 : Shape := ⟨2, ![768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S3x256x1024, .f32⟩
  | .hbm, ⟨1, _⟩ => ⟨S1024x1024, .f32⟩
  | .hbm, ⟨2, _⟩ => ⟨S3x256x1024, .f32⟩
  | .hbm, ⟨3, _⟩ => ⟨S768x1024, .f32⟩
  | _, _ => ⟨S3x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemAttn.lean ====
abbrev S3x16384x512 : Shape := ⟨3, ![3, 16384, 512]⟩
abbrev S3x256x1024 : Shape := ⟨3, ![3, 256, 1024]⟩
abbrev S1x512x512 : Shape := ⟨3, ![1, 512, 512]⟩
abbrev S1x256x1024 : Shape := ⟨3, ![1, 256, 1024]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S3x16384x512, .f32⟩
  | .hbm, ⟨1, _⟩ => ⟨S3x256x1024, .f32⟩
  | .hbm, ⟨2, _⟩ => ⟨S3x16384x512, .bf16⟩
  | .local _ .vmem, ⟨0, _⟩ => ⟨S1x512x512, .f32⟩
  | .local _ .vmem, ⟨1, _⟩ => ⟨S1x512x512, .f32⟩
  | .local _ .vmem, ⟨2, _⟩ => ⟨S1x256x1024, .f32⟩
  | .local _ .vmem, ⟨3, _⟩ => ⟨S1x256x1024, .f32⟩
  | .local _ .vmem, ⟨4, _⟩ => ⟨S1x512x512, .bf16⟩
  | .local _ .vmem, ⟨5, _⟩ => ⟨S1x512x512, .bf16⟩
  | _, _ => ⟨S3x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemAttnRefIdeal.lean ====
abbrev S3x16384x512 : Shape := ⟨3, ![3, 16384, 512]⟩
abbrev S3x256x1024 : Shape := ⟨3, ![3, 256, 1024]⟩
abbrev S3x256x512 : Shape := ⟨3, ![3, 256, 512]⟩
abbrev S3x256x4x128 : Shape := ⟨4, ![3, 256, 4, 128]⟩
abbrev S3x16384x4x128 : Shape := ⟨4, ![3, 16384, 4, 128]⟩
abbrev S3x4x16384x256 : Shape := ⟨4, ![3, 4, 16384, 256]⟩
abbrev S_ : Shape := ⟨0, ![]⟩
abbrev S3x4x16384 : Shape := ⟨3, ![3, 4, 16384]⟩
abbrev S3x4x16384x1 : Shape := ⟨4, ![3, 4, 16384, 1]⟩
abbrev S3x4x128x16384 : Shape := ⟨4, ![3, 4, 128, 16384]⟩

abbrev nBuf : Space → Nat
  | .hbm => 29
  | .vmem => 0
  | .smem => 0
  | _ => 0

abbrev bufTy : (tb : Table) → Fin (tcTables nBuf tb) → BufTy
  | .hbm, ⟨0, _⟩ => ⟨S3x16384x512, .f32⟩
  | .hbm, ⟨1, _⟩ => ⟨S3x256x1024, .f32⟩
  | .hbm, ⟨2, _⟩ => ⟨S3x256x512, .f32⟩
  | .hbm, ⟨3, _⟩ => ⟨S3x256x4x128, .f32⟩
  | .hbm, ⟨4, _⟩ => ⟨S3x256x512, .f32⟩
  | .hbm, ⟨5, _⟩ => ⟨S3x256x4x128, .f32⟩
  | .hbm, ⟨6, _⟩ => ⟨S3x16384x4x128, .f32⟩
  | .hbm, ⟨7, _⟩ => ⟨S3x4x16384x256, .f32⟩
  | .hbm, ⟨8, _⟩ => ⟨S_, .f32⟩
  | .hbm, ⟨9, _⟩ => ⟨S3x4x16384x256, .f32⟩
  | .hbm, ⟨10, _⟩ => ⟨S3x4x16384x256, .f32⟩
  | .hbm, ⟨11, _⟩ => ⟨S_, .f32⟩
  | .hbm, ⟨12, _⟩ => ⟨S3x4x16384, .f32⟩
  | .hbm, ⟨13, _⟩ => ⟨S_, .f32⟩
  | .hbm, ⟨14, _⟩ => ⟨S3x4x16384, .f32⟩
  | .hbm, ⟨15, _⟩ => ⟨S3x4x16384, .f32⟩
  | .hbm, ⟨16, _⟩ => ⟨S3x4x16384x1, .f32⟩
  | .hbm, ⟨17, _⟩ => ⟨S3x4x16384x256, .f32⟩
  | .hbm, ⟨18, _⟩ => ⟨S3x4x16384x256, .f32⟩
  | .hbm, ⟨19, _⟩ => ⟨S3x4x16384x256, .f32⟩
  | .hbm, ⟨20, _⟩ => ⟨S_, .f32⟩
  | .hbm, ⟨21, _⟩ => ⟨S3x4x16384, .f32⟩
  | .hbm, ⟨22, _⟩ => ⟨S3x4x16384x1, .f32⟩
  | .hbm, ⟨23, _⟩ => ⟨S3x4x16384x256, .f32⟩
  | .hbm, ⟨24, _⟩ => ⟨S3x4x16384x256, .f32⟩
  | .hbm, ⟨25, _⟩ => ⟨S3x4x128x16384, .f32⟩
  | .hbm, ⟨26, _⟩ => ⟨S3x16384x4x128, .f32⟩
  | .hbm, ⟨27, _⟩ => ⟨S3x16384x512, .f32⟩
  | .hbm, ⟨28, _⟩ => ⟨S3x16384x512, .bf16⟩
  | _, _ => ⟨S3x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Conv.lean ====
abbrev S3x16384x1536 : Shape := ⟨3, ![3, 16384, 1536]⟩
abbrev S3x1536 : Shape := ⟨2, ![3, 1536]⟩
abbrev S1536 : Shape := ⟨1, ![1536]⟩
abbrev S1x1536 : Shape := ⟨2, ![1, 1536]⟩
abbrev S1x16384x128 : Shape := ⟨3, ![1, 16384, 128]⟩
abbrev S3x128 : Shape := ⟨2, ![3, 128]⟩
abbrev S1x128 : Shape := ⟨2, ![1, 128]⟩
abbrev S16384x128 : Shape := ⟨2, ![16384, 128]⟩

abbrev nBuf : Space → Nat
  | .hbm => 5
  | .vmem => 8
  | .smem => 0
  | _ => 0

abbrev bufTy : (tb : Table) → Fin (tcTables nBuf tb) → BufTy
  | .hbm, ⟨0, _⟩ => ⟨S3x16384x1536, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S3x16384x1536, .f32⟩
  | .local _ .vmem, ⟨0, _⟩ => ⟨S1x16384x128, .f32⟩
  | .local _ .vmem, ⟨1, _⟩ => ⟨S1x16384x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x16384x128, .f32⟩
  | .local _ .vmem, ⟨7, _⟩ => ⟨S1x16384x128, .f32⟩
  | _, _ => ⟨S3x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S3x16384x1536 : Shape := ⟨3, ![3, 16384, 1536]⟩
abbrev S3x1536 : Shape := ⟨2, ![3, 1536]⟩
abbrev S1536 : Shape := ⟨1, ![1536]⟩
abbrev S_ : Shape := ⟨0, ![]⟩
abbrev S3x16386x1536 : Shape := ⟨3, ![3, 16386, 1536]⟩
abbrev S1x1536 : Shape := ⟨2, ![1, 1536]⟩
abbrev S1x1x1536 : Shape := ⟨3, ![1, 1, 1536]⟩

abbrev nBuf : Space → Nat
  | .hbm => 29
  | .vmem => 0
  | .smem => 0
  | _ => 0

abbrev bufTy : (tb : Table) → Fin (tcTables nBuf tb) → BufTy
  | .hbm, ⟨0, _⟩ => ⟨S3x16384x1536, .f32⟩
  | .hbm, ⟨1, _⟩ => ⟨S3x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S3x16386x1536, .f32⟩
  | .hbm, ⟨6, _⟩ => ⟨S3x16384x1536, .f32⟩
  | .hbm, ⟨7, _⟩ => ⟨S1x1536, .f32⟩
  | .hbm, ⟨8, _⟩ => ⟨S1536, .f32⟩
  | .hbm, ⟨9, _⟩ => ⟨S1x1x1536, .f32⟩
  | .hbm, ⟨10, _⟩ => ⟨S3x16384x1536, .f32⟩
  | .hbm, ⟨11, _⟩ => ⟨S3x16384x1536, .f32⟩
  | .hbm, ⟨12, _⟩ => ⟨S1x1x1536, .f32⟩
  | .hbm, ⟨13, _⟩ => ⟨S3x16384x1536, .f32⟩
  | .hbm, ⟨14, _⟩ => ⟨S3x16384x1536, .f32⟩
  | .hbm, ⟨15, _⟩ => ⟨S3x16384x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S3x16384x1536, .f32⟩
  | .hbm, ⟨20, _⟩ => ⟨S3x16384x1536, .f32⟩
  | .hbm, ⟨21, _⟩ => ⟨S3x16384x1536, .f32⟩
  | .hbm, ⟨22, _⟩ => ⟨S3x16384x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S3x16384x1536, .f32⟩
  | .hbm, ⟨27, _⟩ => ⟨S3x16384x1536, .f32⟩
  | .hbm, ⟨28, _⟩ => ⟨S3x16384x1536, .f32⟩
  | _, _ => ⟨S3x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Filt.lean ====
abbrev S33x64 : Shape := ⟨2, ![33, 64]⟩
abbrev S2x64x64 : Shape := ⟨3, ![2, 64, 64]⟩
abbrev S3x64 : Shape := ⟨2, ![3, 64]⟩
abbrev S64x2048 : Shape := ⟨2, ![64, 2048]⟩
abbrev S_ : Shape := ⟨0, ![]⟩
abbrev S15 : Shape := ⟨1, ![15]⟩
abbrev S1 : Shape := ⟨1, ![1]⟩
abbrev S16 : Shape := ⟨1, ![16]⟩
abbrev S128 : Shape := ⟨1, ![128]⟩
abbrev S1x128 : Shape := ⟨2, ![1, 128]⟩
abbrev S1x64 : Shape := ⟨2, ![1, 64]⟩
abbrev S16x64 : Shape := ⟨2, ![16, 64]⟩
abbrev S128x64 : Shape := ⟨2, ![128, 64]⟩
abbrev S64x2x2x512 : Shape := ⟨4, ![64, 2, 2, 512]⟩
abbrev S64x2x1x512 : Shape := ⟨4, ![64, 2, 1, 512]⟩
abbrev S64x2x512 : Shape := ⟨3, ![64, 2, 512]⟩
abbrev S64x1024 : Shape := ⟨2, ![64, 1024]⟩
abbrev S1x64x1024 : Shape := ⟨3, ![1, 64, 1024]⟩
abbrev S2x64x1024 : Shape := ⟨3, ![2, 64, 1024]⟩
abbrev S511 : Shape := ⟨1, ![511]⟩
abbrev S512 : Shape := ⟨1, ![512]⟩
abbrev S1x512 : Shape := ⟨2, ![1, 512]⟩
abbrev S2x512 : Shape := ⟨2, ![2, 512]⟩
abbrev S1024 : Shape := ⟨1, ![1024]⟩
abbrev S1x1024 : Shape := ⟨2, ![1, 1024]⟩
abbrev S32768x1024 : Shape := ⟨2, ![32768, 1024]⟩
abbrev S512x1024 : Shape := ⟨2, ![512, 1024]⟩
abbrev S512x1 : Shape := ⟨2, ![512, 1]⟩
abbrev S512x128 : Shape := ⟨2, ![512, 128]⟩
abbrev S512x64 : Shape := ⟨2, ![512, 64]⟩
abbrev S1x64x64 : Shape := ⟨3, ![1, 64, 64]⟩
abbrev S64x64 : Shape := ⟨2, ![64, 64]⟩

abbrev nBuf : Space → Nat
  | .hbm => 85
  | .vmem => 14
  | .smem => 0
  | _ => 0

abbrev bufTy : (tb : Table) → Fin (tcTables nBuf tb) → BufTy
  | .hbm, ⟨0, _⟩ => ⟨S33x64, .f32⟩
  | .hbm, ⟨1, _⟩ => ⟨S2x64x64, .f32⟩
  | .hbm, ⟨2, _⟩ => ⟨S3x64, .f32⟩
  | .hbm, ⟨3, _⟩ => ⟨S3x64, .f32⟩
  | .hbm, ⟨4, _⟩ => ⟨S64x2048, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S15, .f32⟩
  | .hbm, ⟨13, _⟩ => ⟨S_, .f32⟩
  | .hbm, ⟨14, _⟩ => ⟨S15, .f32⟩
  | .hbm, ⟨15, _⟩ => ⟨S15, .f32⟩
  | .hbm, ⟨16, _⟩ => ⟨S1, .f32⟩
  | .hbm, ⟨17, _⟩ => ⟨S_, .f32⟩
  | .hbm, ⟨18, _⟩ => ⟨S15, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S1, .f32⟩
  | .hbm, ⟨23, _⟩ => ⟨S15, .f32⟩
  | .hbm, ⟨24, _⟩ => ⟨S15, .f32⟩
  | .hbm, ⟨25, _⟩ => ⟨S15, .f32⟩
  | .hbm, ⟨26, _⟩ => ⟨S1, .f32⟩
  | .hbm, ⟨27, _⟩ => ⟨S16, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S33x64, .bf16⟩
  | .hbm, ⟨33, _⟩ => ⟨S1x64, .bf16⟩
  | .hbm, ⟨34, _⟩ => ⟨S1x64, .f32⟩
  | .hbm, ⟨35, _⟩ => ⟨S16x64, .bf16⟩
  | .hbm, ⟨36, _⟩ => ⟨S_, .i32⟩
  | .hbm, ⟨37, _⟩ => ⟨S_, .bf16⟩
  | .hbm, ⟨38, _⟩ => ⟨S128x64, .bf16⟩
  | .hbm, ⟨39, _⟩ => ⟨S16x64, .bf16⟩
  | .hbm, ⟨40, _⟩ => ⟨S_, .i32⟩
  | .hbm, ⟨41, _⟩ => ⟨S_, .bf16⟩
  | .hbm, ⟨42, _⟩ => ⟨S128x64, .bf16⟩
  | .hbm, ⟨43, _⟩ => ⟨S64x2048, .bf16⟩
  | .hbm, ⟨44, _⟩ => ⟨S64x2x2x512, .bf16⟩
  | .hbm, ⟨45, _⟩ => ⟨S64x2x1x512, .bf16⟩
  | .hbm, ⟨46, _⟩ => ⟨S64x2x512, .bf16⟩
  | .hbm, ⟨47, _⟩ => ⟨S64x1024, .bf16⟩
  | .hbm, ⟨48, _⟩ => ⟨S64x2x1x512, .bf16⟩
  | .hbm, ⟨49, _⟩ => ⟨S64x2x512, .bf16⟩
  | .hbm, ⟨50, _⟩ => ⟨S64x1024, .bf16⟩
  | .hbm, ⟨51, _⟩ => ⟨S1x64x1024, .bf16⟩
  | .hbm, ⟨52, _⟩ => ⟨S1x64x1024, .bf16⟩
  | .hbm, ⟨53, _⟩ => ⟨S2x64x1024, .bf16⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S511, .f32⟩
  | .hbm, ⟨62, _⟩ => ⟨S_, .f32⟩
  | .hbm, ⟨63, _⟩ => ⟨S511, .f32⟩
  | .hbm, ⟨64, _⟩ => ⟨S511, .f32⟩
  | .hbm, ⟨65, _⟩ => ⟨S1, .f32⟩
  | .hbm, ⟨66, _⟩ => ⟨S_, .f32⟩
  | .hbm, ⟨67, _⟩ => ⟨S511, .f32⟩
  | .hbm, ⟨68, _⟩ => ⟨S511, .f32⟩
  | .hbm, ⟨69, _⟩ => ⟨S511, .f32⟩
  | .hbm, ⟨70, _⟩ => ⟨S511, .f32⟩
  | .hbm, ⟨71, _⟩ => ⟨S1, .f32⟩
  | .hbm, ⟨72, _⟩ => ⟨S511, .f32⟩
  | .hbm, ⟨73, _⟩ => ⟨S511, .f32⟩
  | .hbm, ⟨74, _⟩ => ⟨S511, .f32⟩
  | .hbm, ⟨75, _⟩ => ⟨S1, .f32⟩
  | .hbm, ⟨76, _⟩ => ⟨S512, .f32⟩
  | .hbm, ⟨77, _⟩ => ⟨S512, .f32⟩
  | .hbm, ⟨78, _⟩ => ⟨S1x512, .f32⟩
  | .hbm, ⟨79, _⟩ => ⟨S2x512, .f32⟩
  | .hbm, ⟨80, _⟩ => ⟨S1024, .f32⟩
  | .hbm, ⟨81, _⟩ => ⟨S1x1024, .f32⟩
  | .hbm, ⟨82, _⟩ => ⟨S2x64x64, .bf16⟩
  | .hbm, ⟨83, _⟩ => ⟨S32768x1024, .f32⟩
  | .hbm, ⟨84, _⟩ => ⟨S1x1024, .f32⟩
  | .local _ .vmem, ⟨0, _⟩ => ⟨S1x128, .f32⟩
  | .local _ .vmem, ⟨1, _⟩ => ⟨S1x64, .f32⟩
  | .local _ .vmem, ⟨2, _⟩ => ⟨S128x64, .bf16⟩
  | .local _ .vmem, ⟨3, _⟩ => ⟨S128x64, .bf16⟩
  | .local _ .vmem, ⟨4, _⟩ => ⟨S2x64x64, .bf16⟩
  | .local _ .vmem, ⟨5, _⟩ => ⟨S3x64, .f32⟩
  | .local _ .vmem, ⟨6, _⟩ => ⟨S3x64, .f32⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v0 : Ref sig .tc := ⟨.hbm, 27, rfl⟩
abbrev main_c_0 : Ref sig .tc := ⟨.hbm, 28, rfl⟩
abbrev main_call1_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_call2_v0 : Ref sig .tc := ⟨.hbm, 37, rfl⟩
abbrev main_v7 : Ref sig .tc := ⟨.hbm, 38, rfl⟩
abbrev main_v8 : Ref sig .tc := ⟨.hbm, 39, rfl⟩
abbrev main_c_2 : Ref sig .tc := ⟨.hbm, 40, rfl⟩
abbrev main_call3_v0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_cst_4 : Ref sig .tc := ⟨.hbm, 55, rfl⟩
abbrev main_call4_v0 : Ref sig .tc := ⟨.hbm, 56, rfl⟩
abbrev main_call4_v1 : Ref sig .tc := ⟨.hbm, 57, rfl⟩
abbrev main_call4_v2 : Ref sig .tc := ⟨.hbm, 58, rfl⟩
abbrev main_call4_cst : Ref sig .tc := ⟨.hbm, 59, rfl⟩
abbrev main_call4_v3 : Ref sig .tc := ⟨.hbm, 60, rfl⟩
abbrev main_call4_v4 : Ref sig .tc := ⟨.hbm, 61, rfl⟩
abbrev main_call4_cst_0 : Ref sig .tc := ⟨.hbm, 62, rfl⟩
abbrev main_call4_v5 : Ref sig .tc := ⟨.hbm, 63, rfl⟩
abbrev main_call4_v6 : Ref sig .tc := ⟨.hbm, 64, rfl⟩
abbrev main_call4_v7 : Ref sig .tc := ⟨.hbm, 65, rfl⟩
abbrev main_call4_cst_1 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_call4_v15 : Ref sig .tc := ⟨.hbm, 74, rfl⟩
abbrev main_call4_v16 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28_0 : Ref sig .tc := ⟨.hbm, 83, rfl⟩
abbrev main_v28_1 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_39 : BitVec 32 := 0#32
  let v92 : BitVec 1 := Scalar.cmpi .ne v91 c0_i32_39
  v92

def k0_cond2 (i : grid0.Coords) : BitVec 1 :=
  let arg0 : BitVec 32 := BitVec.ofNat 32 (i 0).val
  let c0_i32_40 : BitVec 32 := 0#32
  let v93 : BitVec 1 := Scalar.cmpi .ne arg0 c0_i32_40
  let v94 : BitVec 32 := Scalar.extui v93
  let c0_i32_41 : BitVec 32 := 0#32
  let v95 : BitVec 1 := Scalar.cmpi .ne v94 c0_i32_41
  v95

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FiltRefIdeal.lean ====
abbrev S33x64 : Shape := ⟨2, ![33, 64]⟩
abbrev S2x64x64 : Shape := ⟨3, ![2, 64, 64]⟩
abbrev S3x64 : Shape := ⟨2, ![3, 64]⟩
abbrev S64x2048 : Shape := ⟨2, ![64, 2048]⟩
abbrev S16384 : Shape := ⟨1, ![16384]⟩
abbrev S_ : Shape := ⟨0, ![]⟩
abbrev S15 : Shape := ⟨1, ![15]⟩
abbrev S1 : Shape := ⟨1, ![1]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x33 : Shape := ⟨2, ![16384, 33]⟩
abbrev S1x64 : Shape := ⟨2, ![1, 64]⟩
abbrev S64 : Shape := ⟨1, ![64]⟩
abbrev S16384x64 : Shape := ⟨2, ![16384, 64]⟩
abbrev S1x64x64 : Shape := ⟨3, ![1, 64, 64]⟩
abbrev S64x64 : Shape := ⟨2, ![64, 64]⟩
abbrev S16384x2048 : Shape := ⟨2, ![16384, 2048]⟩
abbrev S16384x2x2x512 : Shape := ⟨4, ![16384, 2, 2, 512]⟩
abbrev S511 : Shape := ⟨1, ![511]⟩
abbrev S512 : Shape := ⟨1, ![512]⟩
abbrev S16384x1x1x1 : Shape := ⟨4, ![16384, 1, 1, 1]⟩
abbrev S1x1x1x512 : Shape := ⟨4, ![1, 1, 1, 512]⟩
abbrev S16384x1x1x512 : Shape := ⟨4, ![16384, 1, 1, 512]⟩
abbrev S16384x2x1x512 : Shape := ⟨4, ![16384, 2, 1, 512]⟩
abbrev S16384x2x512 : Shape := ⟨3, ![16384, 2, 512]⟩
abbrev S1x2x512 : Shape := ⟨3, ![1, 2, 512]⟩
abbrev S16383x2x512 : Shape := ⟨3, ![16383, 2, 512]⟩
abbrev S32768x2x512 : Shape := ⟨3, ![32768, 2, 512]⟩
abbrev S2x512 : Shape := ⟨2, ![2, 512]⟩
abbrev S32768x1024 : Shape := ⟨2, ![32768, 1024]⟩
abbrev S1x1024 : Shape := ⟨2, ![1, 1024]⟩

abbrev nBuf : Space → Nat
  | .hbm => 143
  | .vmem => 0
  | .smem => 0
  | _ => 0

abbrev hbmTy0_0 (i : Nat) : BufTy := match i % 128 with
  | 0 => ⟨S33x64, .f32⟩
  | 1 => ⟨S2x64x64, .f32⟩
  | 2 => ⟨S3x64, .f32⟩
  | 3 => ⟨S3x64, .f32⟩
  | 4 => ⟨S64x2048, .f32⟩
  | 5 => ⟨S16384, .f32⟩
  | 6 => ⟨S_, .f32⟩
  | 7 => ⟨S16384, .f32⟩
  | 8 => ⟨S16384, .f32⟩
  | 9 => ⟨S_, .f32⟩
  | 10 => ⟨S16384, .f32⟩
  | 11 => ⟨S16384, .f32⟩
  | 12 => ⟨S_, .f32⟩
  | 13 => ⟨S16384, .f32⟩
  | 14 => ⟨S16384, .f32⟩
  | 15 => ⟨S_, .f32⟩
  | 16 => ⟨S_, .i32⟩
  | 17 => ⟨S_, .f32⟩
  | 18 => ⟨S_, .f32⟩
  | 19 => ⟨S_, .f32⟩
  | 20 => ⟨S_, .f32⟩
  | 21 => ⟨S_, .f32⟩
  | 22 => ⟨S15, .f32⟩
  | 23 => ⟨S_, .f32⟩
  | 24 => ⟨S15, .f32⟩
  | 25 => ⟨S15, .f32⟩
  | 26 => ⟨S1, .f32⟩
  | 27 => ⟨S_, .f32⟩
  | 28 => ⟨S15, .f32⟩
  | 29 => ⟨S15, .f32⟩
  | 30 => ⟨S15, .f32⟩
  | 31 => ⟨S15, .f32⟩
  | 32 => ⟨S1, .f32⟩
  | 33 => ⟨S15, .f32⟩
  | 34 => ⟨S15, .f32⟩
  | 35 => ⟨S15, .f32⟩
  | 36 => ⟨S1, .f32⟩
  | 37 => ⟨S16, .f32⟩
  | 38 => ⟨S16384x1, .f32⟩
  | 39 => ⟨S1x16, .f32⟩
  | 40 => ⟨S16384x16, .f32⟩
  | 41 => ⟨S16384x16, .f32⟩
  | 42 => ⟨S16384x16, .f32⟩
  | 43 => ⟨S16384x1, .f32⟩
  | 44 => ⟨S16384x16, .f32⟩
  | 45 => ⟨S16384x16, .f32⟩
  | 46 => ⟨S16384x16, .f32⟩
  | 47 => ⟨S16384x33, .f32⟩
  | 48 => ⟨S1x64, .f32⟩
  | 49 => ⟨S64, .f32⟩
  | 50 => ⟨S16384x64, .f32⟩
  | 51 => ⟨S1x64, .f32⟩
  | 52 => ⟨S64, .f32⟩
  | 53 => ⟨S1x64, .f32⟩
  | 54 => ⟨S16384x64, .f32⟩
  | 55 => ⟨S16384x64, .f32⟩
  | 56 => ⟨S1x64, .f32⟩
  | 57 => ⟨S16384x64, .f32⟩
  | 58 => ⟨S16384x64, .f32⟩
  | 59 => ⟨S16384x64, .f32⟩
  | 60 => ⟨S1x64, .f32⟩
  | 61 => ⟨S64, .f32⟩
  | 62 => ⟨S1x64x64, .f32⟩
  | 63 => ⟨S64x64, .f32⟩
  | 64 => ⟨S16384x64, .f32⟩
  | 65 => ⟨S1x64, .f32⟩
  | 66 => ⟨S64, .f32⟩
  | 67 => ⟨S1x64, .f32⟩
  | 68 => ⟨S16384x64, .f32⟩
  | 69 => ⟨S16384x64, .f32⟩
  | 70 => ⟨S1x64, .f32⟩
  | 71 => ⟨S16384x64, .f32⟩
  | 72 => ⟨S16384x64, .f32⟩
  | 73 => ⟨S16384x64, .f32⟩
  | 74 => ⟨S1x64, .f32⟩
  | 75 => ⟨S64, .f32⟩
  | 76 => ⟨S1x64x64, .f32⟩
  | 77 => ⟨S64x64, .f32⟩
  | 78 => ⟨S16384x64, .f32⟩
  | 79 => ⟨S1x64, .f32⟩
  | 80 => ⟨S64, .f32⟩
  | 81 => ⟨S1x64, .f32⟩
  | 82 => ⟨S16384x64, .f32⟩
  | 83 => ⟨S16384x64, .f32⟩
  | 84 => ⟨S1x64, .f32⟩
  | 85 => ⟨S16384x64, .f32⟩
  | 86 => ⟨S16384x64, .f32⟩
  | 87 => ⟨S16384x64, .f32⟩
  | 88 => ⟨S16384x2048, .f32⟩
  | 89 => ⟨S16384x2x2x512, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S511, .f32⟩
  | 98 => ⟨S_, .f32⟩
  | 99 => ⟨S511, .f32⟩
  | 100 => ⟨S511, .f32⟩
  | 101 => ⟨S1, .f32⟩
  | 102 => ⟨S_, .f32⟩
  | 103 => ⟨S511, .f32⟩
  | 104 => ⟨S511, .f32⟩
  | 105 => ⟨S511, .f32⟩
  | 106 => ⟨S511, .f32⟩
  | 107 => ⟨S1, .f32⟩
  | 108 => ⟨S511, .f32⟩
  | 109 => ⟨S511, .f32⟩
  | 110 => ⟨S511, .f32⟩
  | 111 => ⟨S1, .f32⟩
  | 112 => ⟨S512, .f32⟩
  | 113 => ⟨S16384x1x1x1, .f32⟩
  | 114 => ⟨S16384x1x1x1, .f32⟩
  | 115 => ⟨S512, .f32⟩
  | 116 => ⟨S1x1x1x512, .f32⟩
  | 117 => ⟨S16384x1x1x512, .f32⟩
  | 118 => ⟨S16384x1x1x512, .f32⟩
  | 119 => ⟨S16384x1x1x512, .f32⟩
  | 120 => ⟨S16384x1x1x512, .f32⟩
  | 121 => ⟨S16384x2x2x512, .f32⟩
  | 122 => ⟨S16384x2x2x512, .f32⟩
  | 123 => ⟨S16384x2x1x512, .f32⟩
  | 124 => ⟨S16384x2x512, .f32⟩
  | 125 => ⟨S16384x2x1x512, .f32⟩
  | 126 => ⟨S16384x2x512, .f32⟩
  | 127 => ⟨S1x2x512, .f32⟩
  | _ => ⟨S33x64, .f32⟩

abbrev hbmTy0_1 (i : Nat) : BufTy := match i % 128 with
  | 0 => ⟨S1x2x512, .f32⟩
  | 1 => ⟨S1x2x512, .f32⟩
  | 2 => ⟨S16383x2x512, .f32⟩
  | 3 => ⟨S1x2x512, .f32⟩
  | 4 => ⟨S_, .f32⟩
  | 5 => ⟨S1x2x512, .f32⟩
  | 6 => ⟨S16383x2x512, .f32⟩
  | 7 => ⟨S16383x2x512, .f32⟩
  | 8 => ⟨S32768x2x512, .f32⟩
  | 9 => ⟨S32768x2x512, .f32⟩
  | 10 => ⟨S_, .f32⟩
  | 11 => ⟨S2x512, .f32⟩
  | 12 => ⟨S1x2x512, .f32⟩
  | 13 => ⟨S32768x1024, .f32⟩
  | 14 => ⟨S1x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_3 : Ref sig .tc := ⟨.hbm, 90, rfl⟩
abbrev main_cst_4 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_cst : Ref sig .tc := ⟨.hbm, 95, rfl⟩
abbrev main_call1_v3 : Ref sig .tc := ⟨.hbm, 96, rfl⟩
abbrev main_call1_v4 : Ref sig .tc := ⟨.hbm, 97, rfl⟩
abbrev main_call1_cst_0 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_cst_1 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_v12 : Ref sig .tc := ⟨.hbm, 107, rfl⟩
abbrev main_call1_v13 : Ref sig .tc := ⟨.hbm, 108, rfl⟩
abbrev main_call1_v14 : Ref sig .tc := ⟨.hbm, 109, rfl⟩
abbrev main_call1_v15 : Ref sig .tc := ⟨.hbm, 110, rfl⟩
abbrev main_call1_v16 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_5 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_6 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩

abbrev nD : Nat := 1
abbrev τ : Topo := Topo.v7x

variable {F : FTy → Type} [FloatOps F]
-- ==== Dft.lean ====
abbrev S1x256x131072 : Shape := ⟨3, ![1, 256, 131072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S512x256 : Shape := ⟨2, ![512, 256]⟩
abbrev S256x512 : Shape := ⟨2, ![256, 512]⟩
abbrev S128 : Shape := ⟨1, ![128]⟩
abbrev S256x1x1 : Shape := ⟨3, ![256, 1, 1]⟩
abbrev S1x128x1 : Shape := ⟨3, ![1, 128, 1]⟩
abbrev S256x128x1 : Shape := ⟨3, ![256, 128, 1]⟩
abbrev S1x1x128 : Shape := ⟨3, ![1, 1, 128]⟩
abbrev S256x128x128 : Shape := ⟨3, ![256, 128, 128]⟩
abbrev S256x128x256 : Shape := ⟨3, ![256, 128, 256]⟩
abbrev S256x256x256 : Shape := ⟨3, ![256, 256, 256]⟩
abbrev S1x512x131072 : Shape := ⟨3, ![1, 512, 131072]⟩
abbrev S1x256x2048 : Shape := ⟨3, ![1, 256, 2048]⟩
abbrev S1x512x2048 : Shape := ⟨3, ![1, 512, 2048]⟩
abbrev S256x2048 : Shape := ⟨2, ![256, 2048]⟩
abbrev S512x2048 : Shape := ⟨2, ![512, 2048]⟩

abbrev nBuf : Space → Nat
  | .hbm => 102
  | .vmem => 5
  | .smem => 0
  | _ => 0

abbrev bufTy : (tb : Table) → Fin (tcTables nBuf tb) → BufTy
  | .hbm, ⟨0, _⟩ => ⟨S1x256x131072, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S_, .i1⟩
  | .hbm, ⟨23, _⟩ => ⟨S256x256, .i1⟩
  | .hbm, ⟨24, _⟩ => ⟨S256x256, .i1⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S256x256, .f32⟩
  | .hbm, ⟨40, _⟩ => ⟨S256x128, .f32⟩
  | .hbm, ⟨41, _⟩ => ⟨S256x128, .f32⟩
  | .hbm, ⟨42, _⟩ => ⟨S256x256, .f32⟩
  | .hbm, ⟨43, _⟩ => ⟨S512x256, .f32⟩
  | .hbm, ⟨44, _⟩ => ⟨S256x512, .f32⟩
  | .hbm, ⟨45, _⟩ => ⟨S_, .f32⟩
  | .hbm, ⟨46, _⟩ => ⟨S256x512, .f32⟩
  | .hbm, ⟨47, _⟩ => ⟨S256x512, .f32⟩
  | .hbm, ⟨48, _⟩ => ⟨S512x256, .f32⟩
  | .hbm, ⟨49, _⟩ => ⟨S128, .i32⟩
  | .hbm, ⟨50, _⟩ => ⟨S256x1x1, .i32⟩
  | .hbm, ⟨51, _⟩ => ⟨S1x128x1, .i32⟩
  | .hbm, ⟨52, _⟩ => ⟨S_, .i32⟩
  | .hbm, ⟨53, _⟩ => ⟨S1x128x1, .i32⟩
  | .hbm, ⟨54, _⟩ => ⟨S1x128x1, .i32⟩
  | .hbm, ⟨55, _⟩ => ⟨S256x128x1, .i32⟩
  | .hbm, ⟨56, _⟩ => ⟨S256x128x1, .i32⟩
  | .hbm, ⟨57, _⟩ => ⟨S256x128x1, .i32⟩
  | .hbm, ⟨58, _⟩ => ⟨S1x1x128, .i32⟩
  | .hbm, ⟨59, _⟩ => ⟨S256x128x128, .i32⟩
  | .hbm, ⟨60, _⟩ => ⟨S256x128x128, .i32⟩
  | .hbm, ⟨61, _⟩ => ⟨S256x128x128, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S256x128x128, .i32⟩
  | .hbm, ⟨69, _⟩ => ⟨S256x128x128, .i32⟩
  | .hbm, ⟨70, _⟩ => ⟨S_, .i32⟩
  | .hbm, ⟨71, _⟩ => ⟨S256x128x128, .i32⟩
  | .hbm, ⟨72, _⟩ => ⟨S256x128x128, .i1⟩
  | .hbm, ⟨73, _⟩ => ⟨S_, .i32⟩
  | .hbm, ⟨74, _⟩ => ⟨S256x128x128, .i32⟩
  | .hbm, ⟨75, _⟩ => ⟨S256x128x128, .i1⟩
  | .hbm, ⟨76, _⟩ => ⟨S_, .i32⟩
  | .hbm, ⟨77, _⟩ => ⟨S_, .i1⟩
  | .hbm, ⟨78, _⟩ => ⟨S256x128x128, .i1⟩
  | .hbm, ⟨79, _⟩ => ⟨S256x128x128, .i1⟩
  | .hbm, ⟨80, _⟩ => ⟨S256x128x128, .i1⟩
  | .hbm, ⟨81, _⟩ => ⟨S256x128x128, .i32⟩
  | .hbm, ⟨82, _⟩ => ⟨S256x128x128, .i32⟩
  | .hbm, ⟨83, _⟩ => ⟨S256x128x128, .i32⟩
  | .hbm, ⟨84, _⟩ => ⟨S256x128x128, .f32⟩
  | .hbm, ⟨85, _⟩ => ⟨S_, .f32⟩
  | .hbm, ⟨86, _⟩ => ⟨S256x128x128, .f32⟩
  | .hbm, ⟨87, _⟩ => ⟨S256x128x128, .f32⟩
  | .hbm, ⟨88, _⟩ => ⟨S256x128x128, .f32⟩
  | .hbm, ⟨89, _⟩ => ⟨S256x128x128, .f32⟩
  | .hbm, ⟨90, _⟩ => ⟨S256x128x128, .f32⟩
  | .hbm, ⟨91, _⟩ => ⟨S256x128x128, .f32⟩
  | .hbm, ⟨92, _⟩ => ⟨S256x128x256, .f32⟩
  | .hbm, ⟨93, _⟩ => ⟨S256x128x256, .f32⟩
  | .hbm, ⟨94, _⟩ => ⟨S256x256x256, .f32⟩
  | .hbm, ⟨95, _⟩ => ⟨S512x256, .bf16⟩
  | .hbm, ⟨96, _⟩ => ⟨S256x512, .bf16⟩
  | .hbm, ⟨97, _⟩ => ⟨S512x256, .bf16⟩
  | .hbm, ⟨98, _⟩ => ⟨S256x256x256, .bf16⟩
  | .hbm, ⟨99, _⟩ => ⟨S256x256x256, .f32⟩
  | .hbm, ⟨100, _⟩ => ⟨S256x256x256, .bf16⟩
  | .hbm, ⟨101, _⟩ => ⟨S1x512x131072, .bf16⟩
  | .local _ .vmem, ⟨0, _⟩ => ⟨S512x256, .bf16⟩
  | .local _ .vmem, ⟨1, _⟩ => ⟨S1x256x2048, .f32⟩
  | .local _ .vmem, ⟨2, _⟩ => ⟨S1x256x2048, .f32⟩
  | .local _ .vmem, ⟨3, _⟩ => ⟨S1x512x2048, .bf16⟩
  | .local _ .vmem, ⟨4, _⟩ => ⟨S1x512x2048, .bf16⟩
  | _, _ => ⟨S1x256x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_2 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_1 : Ref sig .tc := ⟨.hbm, 70, rfl⟩
abbrev main_call1_v5 : Ref sig .tc := ⟨.hbm, 71, rfl⟩
abbrev main_call1_v6 : Ref sig .tc := ⟨.hbm, 72, rfl⟩
abbrev main_call1_c_2 : Ref sig .tc := ⟨.hbm, 73, rfl⟩
abbrev main_call1_v7 : Ref sig .tc := ⟨.hbm, 74, rfl⟩
abbrev main_call1_v8 : Ref sig .tc := ⟨.hbm, 75, rfl⟩
abbrev main_call1_c_3 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_v37 : Ref sig .tc := ⟨.hbm, 83, rfl⟩
abbrev main_v38 : Ref sig .tc := ⟨.hbm, 84, rfl⟩
abbrev main_cst_3 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DftRefIdeal.lean ====
abbrev S1x256x131072 : Shape := ⟨3, ![1, 256, 131072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x131072x256 : Shape := ⟨3, ![1, 131072, 256]⟩
abbrev S1x512x131072 : Shape := ⟨3, ![1, 512, 131072]⟩

abbrev nBuf : Space → Nat
  | .hbm => 42
  | .vmem => 0
  | .smem => 0
  | _ => 0

abbrev bufTy : (tb : Table) → Fin (tcTables nBuf tb) → BufTy
  | .hbm, ⟨0, _⟩ => ⟨S1x256x131072, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S_, .i1⟩
  | .hbm, ⟨23, _⟩ => ⟨S256x256, .i1⟩
  | .hbm, ⟨24, _⟩ => ⟨S256x256, .i1⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S1x131072x256, .f32⟩
  | .hbm, ⟨35, _⟩ => ⟨S1x256x131072, .f32⟩
  | .hbm, ⟨36, _⟩ => ⟨S256x256, .f32⟩
  | .hbm, ⟨37, _⟩ => ⟨S256x256, .f32⟩
  | .hbm, ⟨38, _⟩ => ⟨S1x131072x256, .f32⟩
  | .hbm, ⟨39, _⟩ => ⟨S1x256x131072, .f32⟩
  | .hbm, ⟨40, _⟩ => ⟨S1x512x131072, .f32⟩
  | .hbm, ⟨41, _⟩ => ⟨S1x512x131072, .bf16⟩
  | _, _ => ⟨S1x256x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩

abbrev nD : Nat := 1
abbrev τ : Topo := Topo.v7x

variable {F : FTy → Type} [FloatOps F]
-- ==== Pair.lean ====
abbrev S4x128x65536 : Shape := ⟨3, ![4, 128, 65536]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S512x256 : Shape := ⟨2, ![512, 256]⟩
abbrev S256x512 : Shape := ⟨2, ![256, 512]⟩
abbrev S128 : Shape := ⟨1, ![128]⟩
abbrev S256x1x1 : Shape := ⟨3, ![256, 1, 1]⟩
abbrev S1x128x1 : Shape := ⟨3, ![1, 128, 1]⟩
abbrev S256x128x1 : Shape := ⟨3, ![256, 128, 1]⟩
abbrev S1x1x128 : Shape := ⟨3, ![1, 1, 128]⟩
abbrev S256x128x128 : Shape := ⟨3, ![256, 128, 128]⟩
abbrev S256x128x256 : Shape := ⟨3, ![256, 128, 256]⟩
abbrev S256x256x256 : Shape := ⟨3, ![256, 256, 256]⟩
abbrev S2x512x65536 : Shape := ⟨3, ![2, 512, 65536]⟩
abbrev S1x128x2048 : Shape := ⟨3, ![1, 128, 2048]⟩
abbrev S1x512x2048 : Shape := ⟨3, ![1, 512, 2048]⟩
abbrev S128x2048 : Shape := ⟨2, ![128, 2048]⟩
abbrev S256x2048 : Shape := ⟨2, ![256, 2048]⟩
abbrev S512x2048 : Shape := ⟨2, ![512, 2048]⟩

abbrev nBuf : Space → Nat
  | .hbm => 102
  | .vmem => 7
  | .smem => 0
  | _ => 0

abbrev bufTy : (tb : Table) → Fin (tcTables nBuf tb) → BufTy
  | .hbm, ⟨0, _⟩ => ⟨S4x128x65536, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S_, .i1⟩
  | .hbm, ⟨23, _⟩ => ⟨S256x256, .i1⟩
  | .hbm, ⟨24, _⟩ => ⟨S256x256, .i1⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S256x256, .f32⟩
  | .hbm, ⟨40, _⟩ => ⟨S256x128, .f32⟩
  | .hbm, ⟨41, _⟩ => ⟨S256x128, .f32⟩
  | .hbm, ⟨42, _⟩ => ⟨S256x256, .f32⟩
  | .hbm, ⟨43, _⟩ => ⟨S512x256, .f32⟩
  | .hbm, ⟨44, _⟩ => ⟨S256x512, .f32⟩
  | .hbm, ⟨45, _⟩ => ⟨S_, .f32⟩
  | .hbm, ⟨46, _⟩ => ⟨S256x512, .f32⟩
  | .hbm, ⟨47, _⟩ => ⟨S256x512, .f32⟩
  | .hbm, ⟨48, _⟩ => ⟨S512x256, .f32⟩
  | .hbm, ⟨49, _⟩ => ⟨S128, .i32⟩
  | .hbm, ⟨50, _⟩ => ⟨S256x1x1, .i32⟩
  | .hbm, ⟨51, _⟩ => ⟨S1x128x1, .i32⟩
  | .hbm, ⟨52, _⟩ => ⟨S_, .i32⟩
  | .hbm, ⟨53, _⟩ => ⟨S1x128x1, .i32⟩
  | .hbm, ⟨54, _⟩ => ⟨S1x128x1, .i32⟩
  | .hbm, ⟨55, _⟩ => ⟨S256x128x1, .i32⟩
  | .hbm, ⟨56, _⟩ => ⟨S256x128x1, .i32⟩
  | .hbm, ⟨57, _⟩ => ⟨S256x128x1, .i32⟩
  | .hbm, ⟨58, _⟩ => ⟨S1x1x128, .i32⟩
  | .hbm, ⟨59, _⟩ => ⟨S256x128x128, .i32⟩
  | .hbm, ⟨60, _⟩ => ⟨S256x128x128, .i32⟩
  | .hbm, ⟨61, _⟩ => ⟨S256x128x128, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S256x128x128, .i32⟩
  | .hbm, ⟨69, _⟩ => ⟨S256x128x128, .i32⟩
  | .hbm, ⟨70, _⟩ => ⟨S_, .i32⟩
  | .hbm, ⟨71, _⟩ => ⟨S256x128x128, .i32⟩
  | .hbm, ⟨72, _⟩ => ⟨S256x128x128, .i1⟩
  | .hbm, ⟨73, _⟩ => ⟨S_, .i32⟩
  | .hbm, ⟨74, _⟩ => ⟨S256x128x128, .i32⟩
  | .hbm, ⟨75, _⟩ => ⟨S256x128x128, .i1⟩
  | .hbm, ⟨76, _⟩ => ⟨S_, .i32⟩
  | .hbm, ⟨77, _⟩ => ⟨S_, .i1⟩
  | .hbm, ⟨78, _⟩ => ⟨S256x128x128, .i1⟩
  | .hbm, ⟨79, _⟩ => ⟨S256x128x128, .i1⟩
  | .hbm, ⟨80, _⟩ => ⟨S256x128x128, .i1⟩
  | .hbm, ⟨81, _⟩ => ⟨S256x128x128, .i32⟩
  | .hbm, ⟨82, _⟩ => ⟨S256x128x128, .i32⟩
  | .hbm, ⟨83, _⟩ => ⟨S256x128x128, .i32⟩
  | .hbm, ⟨84, _⟩ => ⟨S256x128x128, .f32⟩
  | .hbm, ⟨85, _⟩ => ⟨S_, .f32⟩
  | .hbm, ⟨86, _⟩ => ⟨S256x128x128, .f32⟩
  | .hbm, ⟨87, _⟩ => ⟨S256x128x128, .f32⟩
  | .hbm, ⟨88, _⟩ => ⟨S256x128x128, .f32⟩
  | .hbm, ⟨89, _⟩ => ⟨S256x128x128, .f32⟩
  | .hbm, ⟨90, _⟩ => ⟨S256x128x128, .f32⟩
  | .hbm, ⟨91, _⟩ => ⟨S256x128x128, .f32⟩
  | .hbm, ⟨92, _⟩ => ⟨S256x128x256, .f32⟩
  | .hbm, ⟨93, _⟩ => ⟨S256x128x256, .f32⟩
  | .hbm, ⟨94, _⟩ => ⟨S256x256x256, .f32⟩
  | .hbm, ⟨95, _⟩ => ⟨S512x256, .bf16⟩
  | .hbm, ⟨96, _⟩ => ⟨S256x512, .bf16⟩
  | .hbm, ⟨97, _⟩ => ⟨S512x256, .bf16⟩
  | .hbm, ⟨98, _⟩ => ⟨S256x256x256, .bf16⟩
  | .hbm, ⟨99, _⟩ => ⟨S256x256x256, .f32⟩
  | .hbm, ⟨100, _⟩ => ⟨S256x256x256, .bf16⟩
  | .hbm, ⟨101, _⟩ => ⟨S2x512x65536, .bf16⟩
  | .local _ .vmem, ⟨0, _⟩ => ⟨S512x256, .bf16⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x512x2048, .bf16⟩
  | .local _ .vmem, ⟨6, _⟩ => ⟨S1x512x2048, .bf16⟩
  | _, _ => ⟨S4x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_2 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_1 : Ref sig .tc := ⟨.hbm, 70, rfl⟩
abbrev main_call1_v5 : Ref sig .tc := ⟨.hbm, 71, rfl⟩
abbrev main_call1_v6 : Ref sig .tc := ⟨.hbm, 72, rfl⟩
abbrev main_call1_c_2 : Ref sig .tc := ⟨.hbm, 73, rfl⟩
abbrev main_call1_v7 : Ref sig .tc := ⟨.hbm, 74, rfl⟩
abbrev main_call1_v8 : Ref sig .tc := ⟨.hbm, 75, rfl⟩
abbrev main_call1_c_3 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_v37 : Ref sig .tc := ⟨.hbm, 83, rfl⟩
abbrev main_v38 : Ref sig .tc := ⟨.hbm, 84, rfl⟩
abbrev main_cst_3 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c3_i32 : BitVec 32 := 3#32
  let v1 : BitVec 32 := Scalar.minsi v0 c3_i32
  let c0_i32 : BitVec 32 := 0#32
  let c0_i32_0 : BitVec 32 := 0#32
  ![v1.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c3_i32 : BitVec 32 := 3#32
  let v2 : BitVec 32 := Scalar.minsi v1 c3_i32
  let c0_i32 : BitVec 32 := 0#32
  let c0_i32_0 : BitVec 32 := 0#32
  ![v2.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairRefIdeal.lean ====
abbrev S4x128x65536 : Shape := ⟨3, ![4, 128, 65536]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x128 : Shape := ⟨2, ![256, 128]⟩
abbrev S2x128x65536 : Shape := ⟨3, ![2, 128, 65536]⟩
abbrev S2x65536x256 : Shape := ⟨3, ![2, 65536, 256]⟩
abbrev S2x256x65536 : Shape := ⟨3, ![2, 256, 65536]⟩
abbrev S2x512x65536 : Shape := ⟨3, ![2, 512, 65536]⟩

abbrev nBuf : Space → Nat
  | .hbm => 52
  | .vmem => 0
  | .smem => 0
  | _ => 0

abbrev bufTy : (tb : Table) → Fin (tcTables nBuf tb) → BufTy
  | .hbm, ⟨0, _⟩ => ⟨S4x128x65536, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S_, .i1⟩
  | .hbm, ⟨23, _⟩ => ⟨S256x256, .i1⟩
  | .hbm, ⟨24, _⟩ => ⟨S256x256, .i1⟩
  | .hbm, ⟨25, _⟩ => ⟨S256x256, .i1⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x128, .f32⟩
  | .hbm, ⟨35, _⟩ => ⟨S256x256, .f32⟩
  | .hbm, ⟨36, _⟩ => ⟨S256x128, .f32⟩
  | .hbm, ⟨37, _⟩ => ⟨S2x128x65536, .f32⟩
  | .hbm, ⟨38, _⟩ => ⟨S2x128x65536, .f32⟩
  | .hbm, ⟨39, _⟩ => ⟨S2x65536x256, .f32⟩
  | .hbm, ⟨40, _⟩ => ⟨S2x256x65536, .f32⟩
  | .hbm, ⟨41, _⟩ => ⟨S2x65536x256, .f32⟩
  | .hbm, ⟨42, _⟩ => ⟨S2x256x65536, .f32⟩
  | .hbm, ⟨43, _⟩ => ⟨S2x256x65536, .f32⟩
  | .hbm, ⟨44, _⟩ => ⟨S256x128, .f32⟩
  | .hbm, ⟨45, _⟩ => ⟨S2x65536x256, .f32⟩
  | .hbm, ⟨46, _⟩ => ⟨S2x256x65536, .f32⟩
  | .hbm, ⟨47, _⟩ => ⟨S2x65536x256, .f32⟩
  | .hbm, ⟨48, _⟩ => ⟨S2x256x65536, .f32⟩
  | .hbm, ⟨49, _⟩ => ⟨S2x256x65536, .f32⟩
  | .hbm, ⟨50, _⟩ => ⟨S2x512x65536, .f32⟩
  | .hbm, ⟨51, _⟩ => ⟨S2x512x65536, .bf16⟩
  | _, _ => ⟨S4x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Proof.Sink.lean ====
/-
A softmax row with a sink, over the extended reals, and when two rows of values give the same result.
-/
module

public import Idealize.ShloMosaic.Lib.Pipeline.ValueKit

@[expose] public section

noncomputable section

open Idealize.ShloMosaic

namespace Cert.Sink

/-- The maximum the row is taken against: the largest score or the sink. -/
def top {n : ℕ} (s : Fin n → EReal) (sink : EReal) : EReal := max (Finset.univ.fold max ⊥ s) sink

/-- The normaliser: the sum of the exponentials with the sink's own. -/
def denom {n : ℕ} (s : Fin n → EReal) (sink : EReal) : EReal :=
  (∑ l, Ideal.exp (s l - top s sink)) + Ideal.exp (sink - top s sink)

/-- One row of an attention with a sink: the weights of the scores `s`, taken against the values `v`. -/
def row {n : ℕ} (s : Fin n → EReal) (sink : EReal) (v : Fin n → EReal) : EReal :=
  ∑ k, Ideal.div (Ideal.exp (s k - top s sink)) (denom s sink) * v k

/-- A row depends only on its scores, its sink and its values. -/
theorem row_congr {n : ℕ} {s s' v v' : Fin n → EReal} {a a' : EReal} (hs : ∀ k, s k = s' k) (ha : a = a') (hv : ∀ k, v k = v' k) :
    row s a v = row s' a' v' := by
  rw [funext hs, ha, funext hv]

/-- An exponential is never negative. -/
theorem exp_nonneg (x : EReal) : 0 ≤ Ideal.exp x := by
  induction x with
  | bot => exact le_of_eq rfl
  | top => exact le_top
  | coe r => exact EReal.coe_nonneg.mpr (Real.exp_pos r).le

/-- A sum of terms each of which is minus infinity, zero or plus infinity: minus infinity if one term is, else plus
    infinity if one term is, else zero. -/
theorem sum_extreme {ι : Type} (S : Finset ι) (f : ι → EReal) (hf : ∀ k, f k = ⊥ ∨ f k = 0 ∨ f k = ⊤) :
    ((∃ k ∈ S, f k = ⊥) ∧ ∑ k ∈ S, f k = ⊥) ∨ ((¬ ∃ k ∈ S, f k = ⊥) ∧ (∃ k ∈ S, f k = ⊤) ∧ ∑ k ∈ S, f k = ⊤)
      ∨ ((¬ ∃ k ∈ S, f k = ⊥) ∧ (¬ ∃ k ∈ S, f k = ⊤) ∧ ∑ k ∈ S, f k = 0) := by
  classical
  induction S using Finset.induction_on with
  | empty => right; right; simp
  | insert a S ha ih =>
    simp only [Finset.sum_insert ha, Finset.exists_mem_insert]
    rcases hf a with h | h | h <;> rcases ih with ⟨h1, h2⟩ | ⟨h1, h2, h3⟩ | ⟨h1, h2, h3⟩ <;> simp_all

/-- Two sums of such terms are equal when the same extremes occur in both. -/
theorem sum_extreme_congr {n : ℕ} (f g : Fin n → EReal) (hf : ∀ k, f k = ⊥ ∨ f k = 0 ∨ f k = ⊤)
    (hg : ∀ k, g k = ⊥ ∨ g k = 0 ∨ g k = ⊤) (hfg : ∀ k, f k = 0 ∨ ∃ l, g l = f k) (hgf : ∀ k, g k = 0 ∨ ∃ l, f l = g k) :
    ∑ k, f k = ∑ k, g k := by
  have key : ∀ z : EReal, z ≠ 0 → ((∃ k ∈ Finset.univ, f k = z) ↔ ∃ k ∈ Finset.univ, g k = z) := fun z hz =>
    ⟨fun ⟨k, _, hk⟩ => (hfg k).elim (fun h => absurd (hk.symm.trans h) hz) fun ⟨l, hl⟩ => ⟨l, Finset.mem_univ l, hl.trans hk⟩,
     fun ⟨k, _, hk⟩ => (hgf k).elim (fun h => absurd (hk.symm.trans h) hz) fun ⟨l, hl⟩ => ⟨l, Finset.mem_univ l, hl.trans hk⟩⟩
  have hb := key ⊥ (by simp)
  have ht := key ⊤ (by simp)
  rcases sum_extreme Finset.univ f hf with ⟨a, b⟩ | ⟨a, b, c⟩ | ⟨a, b, c⟩ <;>
    rcases sum_extreme Finset.univ g hg with ⟨a', b'⟩ | ⟨a', b', c'⟩ | ⟨a', b', c'⟩ <;>
    first
    | exact b.trans b'.symm | exact c.trans c'.symm
    | exact absurd (hb.mp a) a' | exact absurd (hb.mpr a') a | exact absurd (ht.mp b) b' | exact absurd (ht.mpr b') b

/-- Minus infinity times anything is an extreme or zero. -/
theorem bot_mul_extreme (v : EReal) : ⊥ * v = ⊥ ∨ ⊥ * v = 0 ∨ ⊥ * v = ⊤ := by
  rcases lt_trichotomy v 0 with h | h | h
  · exact .inr (.inr (EReal.bot_mul_of_neg h))
  · exact .inr (.inl (by rw [h, mul_zero]))
  · exact .inl (EReal.bot_mul_of_pos h)

/-- Keys whose score is minus infinity do not count. The keys `off` have such a score; elsewhere the two rows of
    values agree. At a key of `off` the second row is zero and the first repeats the value of another key, `dup k`, that
    is not in `off`. Then both rows give the same result. Where the normaliser is not zero, such a key's weight is zero.
    Where it is zero, every weight is minus infinity, and a repeated term leaves a sum of extremes unchanged. -/
theorem row_off {n : ℕ} (s : Fin n → EReal) (sink : EReal) (v v' : Fin n → EReal) (off : Fin n → Prop) (dup : Fin n → Fin n)
    (hs : ∀ k, off k → s k = ⊥) (hv : ∀ k, ¬ off k → v k = v' k) (h0 : ∀ k, off k → v' k = 0)
    (hd : ∀ k, off k → ¬ off (dup k) ∧ v k = v (dup k)) : row s sink v = row s sink v' := by
  classical
  unfold row
  by_cases hz : denom s sink = 0
  · have hsum : ∑ l, Ideal.exp (s l - top s sink) = 0 := by
      refine le_antisymm ?_ (Finset.sum_nonneg fun l _ => exp_nonneg _)
      rw [← hz]
      exact le_add_of_nonneg_right (exp_nonneg _)
    have hexp : ∀ k, Ideal.exp (s k - top s sink) = 0 := fun k =>
      (Finset.sum_eq_zero_iff_of_nonneg fun l _ => exp_nonneg _).mp hsum k (Finset.mem_univ k)
    have hw : ∀ k, Ideal.div (Ideal.exp (s k - top s sink)) (denom s sink) = ⊥ := fun k => by
      rw [hexp, hz]; simp [Ideal.div]
    simp only [hw]
    refine sum_extreme_congr _ _ (fun k => bot_mul_extreme _) (fun k => bot_mul_extreme _) (fun k => ?_) (fun k => ?_)
    · by_cases hk : off k
      · exact .inr ⟨dup k, by rw [(hd k hk).2, hv _ (hd k hk).1]⟩
      · exact .inr ⟨k, by rw [hv k hk]⟩
    · by_cases hk : off k
      · exact .inl (by rw [h0 k hk, mul_zero])
      · exact .inr ⟨k, by rw [hv k hk]⟩
  · refine Finset.sum_congr rfl fun k _ => ?_
    by_cases hk : off k
    · have hw : Ideal.div (Ideal.exp (s k - top s sink)) (denom s sink) = 0 := by
        rw [hs k hk, EReal.bot_sub]
        exact Ideal.zero_div hz
      rw [hw, zero_mul, zero_mul]
    · rw [hv k hk]

end Cert.Sink

end
-- ==== Proof.AttnTile.lean ====
/-
The windowed attention: what the kernel leaves in one block of 512 rows.
-/
module

public import proofs.«01_k».proof.Proof.Gen.AttnIdeal.Frame
public import proofs.«01_k».proof.Proof.Sink

@[expose] public section

set_option maxRecDepth 16384

noncomputable section

open Idealize.ShloMosaic Idealize.ShloMosaic.TcCoe Idealize.SL.Sem
open Idealize.ShloMosaic.Pipeline (Dat)

namespace Cert.AttnIdeal.Layer

open Cert.AttnIdeal Cert.AttnIdeal.Gen Cert.Sink

variable (m : (ℓ : Loc nD τ sig) → Buf (Elt Ideal) ℓ)

/-- The number a maximum starts from is minus infinity. -/
theorem neg_inf : Ideal.ofBits FTy.f32 0xFF800000#32 = (⊥ : EReal) := by
  first | rfl | (simp [Ideal.ofBits]; done) | decide

/-- The mask's constant is minus infinity. -/
theorem mask_bot : (Named.named (F := Ideal) κ "mask" (φ := .f32) 0xF149F2CA#32 : Ideal .f32) = (⊥ : EReal) :=
  IdealRules.named_const.ideal_named_scalar _ _ _ _ rfl

/-- One head of one query block in the kernel's own operations, from its scores, its sink and its values. -/
def headV (s : FVec Ideal S128x384 .f32) (a : Elt Ideal .f32) (v : FVec Ideal S384x64 .bf16) : FVec Ideal S1x128x64 .bf16 :=
  let mx : FVec Ideal S128x1 .f32 := maximumf (shapeCast S128x1
    (multiReduction .maximumf [1] S128 s 0xFF800000#32 reduces_S128x384_S128 (.inl rfl) rfl) shapeCasts_S128_S128x1) (broadcast S128x1 a)
  let p : FVec Ideal S128x384 .f32 := exp (subf s (broadcastTo S128x384 mx broadcasts_S128x1_S128x384))
  let d : FVec Ideal S128x1 .f32 := addf (shapeCast S128x1
    (multiReduction .add [1] S128 p 0x00000000#32 reduces_S128x384_S128 (.inl rfl) rfl) shapeCasts_S128_S128x1)
    (exp (subf (broadcast S128x1 a) mx))
  shapeCast S1x128x64 (truncf .bf16 (matmul dot_S128x384_S384x64_S128x64_1_0_0_1_n_n none
    (truncf .bf16 (divf p (broadcastTo S128x384 d broadcasts_S128x1_S128x384)) bitsLt_bf16_f32) v
    (constant S128x64 .f32 0x00000000#32)) bitsLt_bf16_f32) shapeCasts_S128x64_S1x128x64

/-- Each entry of a head is one row of an attention with a sink. -/
theorem headV_at (s : FVec Ideal S128x384 .f32) (a : Elt Ideal .f32) (v : FVec Ideal S384x64 .bf16) (x : S1x128x64.Idx) :
    headV s a v x = row (fun k : Fin 384 => s (ix2 (x 1) k)) a (fun k => v (ix2 k (x 2))) := by
  pointwise [headV, row, top, denom, neg_inf]

/-- The kernel's score of query row `r` against its key `k`: the scaled product plus the bias; minus infinity at the
    keys before the first row and behind the last. -/
def score (i : ℕ) (Q : FVec Ideal S512x512 .bf16) (K : FVec Ideal S768x128 .bf16) (B : FVec Ideal S8x128x384 .f32)
    (r : Fin 512) (h : Fin 8) (k : Fin 384) : EReal :=
  if i = 0 ∧ (r : ℕ) < 128 ∧ (k : ℕ) < 128 ∨ i = 31 ∧ 384 ≤ (r : ℕ) ∧ 256 ≤ (k : ℕ) then ⊥
  else (∑ d : Fin 64, Q (ix2 r ⟨(h : ℕ) * 64 + d, by omega⟩)
      * K (ix2 ⟨(r : ℕ) / 128 * 128 + k, by omega⟩ ⟨(h : ℕ) / 4 * 64 + d, by omega⟩)) * Ideal.ofBits FTy.f32 0x3E000000#32
    + B (ix3 h ⟨(r : ℕ) % 128, by omega⟩ k)

/-- A selection by a bit that stands for a proposition. -/
theorem select_bit {b : BitVec 1} {P : Prop} [Decidable P] (h : b = 1#1 ↔ P) (u z : EReal) :
    Scalar.select b u z = if P then u else z := by
  unfold Scalar.select
  by_cases hp : P
  · rw [if_pos hp, h.mpr hp]; rfl
  · rw [if_neg hp]; exact if_neg fun hb => hp (h.mp hb)

/-- The mask of the first tile, as a bit. -/
theorem first_bit (i : grid0.Coords) (x : Fin 128) (k : Fin 384) :
    k0_pay7 i (ix2 x k) = 1#1 ↔ (i 1 : ℕ) = 0 ∧ (k : ℕ) < 128 := by
  pointwise [k0_pay7]
  exact (by decide +kernel : ∀ (i : Fin 32) (k : Fin 384), IntOp.andi (Scalar.cmpi CmpIPredicate.eq (BitVec.ofNat 32 (i : ℕ)) 0#32)
    (IntOp.cmpi CmpIPredicate.slt (BitVec.ofNat 32 (k : ℕ)) 128#32) = 1#1 ↔ (i : ℕ) = 0 ∧ (k : ℕ) < 128) (i 1) k

/-- The mask of the last tile, as a bit. -/
theorem last_bit (i : grid0.Coords) (x : Fin 128) (k : Fin 384) :
    k0_pay71 (iota Kind.tc S128x384 32 [1] iota_S128x384_d1_w32) (Scalar.cmpi CmpIPredicate.eq (BitVec.ofNat 32 (i 1 : ℕ)) 31#32) (ix2 x k) = 1#1
      ↔ (i 1 : ℕ) = 31 ∧ 256 ≤ (k : ℕ) := by
  pointwise [k0_pay71]
  exact (by decide +kernel : ∀ (i : Fin 32) (k : Fin 384), IntOp.andi (Scalar.cmpi CmpIPredicate.eq (BitVec.ofNat 32 (i : ℕ)) 31#32)
    (IntOp.cmpi CmpIPredicate.sge (BitVec.ofNat 32 (k : ℕ)) 256#32) = 1#1 ↔ (i : ℕ) = 31 ∧ 256 ≤ (k : ℕ)) (i 1) k

/-- The grid's second coordinate. -/
theorem coord : ∀ t : Fin cfg0.N, ((grid0.coords t 1 : Fin _) : ℕ) = t.val % 32 :=
  (by decide +kernel : ∀ t : Fin grid0.N, _)

set_option maxHeartbeats 4000000 in
/-- What the kernel leaves in a block: at row `y 1` and column `y 2`, the attention of head `y 2 / 64`. -/
theorem tile (c : Dev nD) (t : Fin cfg0.N) (y : S1x512x512.Idx) :
    outsAt0 (F := Ideal) m c t y
      = row (fun k : Fin 384 => score (t.val % 32) (k0_pay2 (X0_1 m c t)) (k0_pay3 (iblk m c 2 t) (iblk m c 3 t) (iblk m c 4 t)) (iblk m c 8 t)
            (y 1) ⟨(y 2 : ℕ) / 64, by have h : (y 2 : ℕ) < 512 := (y 2).isLt; omega⟩ k)
          ((show FVec Ideal S8 .f32 from iblk m c 0 t) (ix1 ⟨(y 2 : ℕ) / 64, by have h : (y 2 : ℕ) < 512 := (y 2).isLt; omega⟩))
          (fun k => (k0_pay4 (iblk m c 5 t) (iblk m c 6 t) (iblk m c 7 t) : FVec Ideal S768x128 .bf16)
            (ix2 ⟨(y 1 : ℕ) / 128 * 128 + k, by have h : (y 1 : ℕ) < 512 := (y 1).isLt; omega⟩
              ⟨(y 2 : ℕ) / 256 * 64 + (y 2 : ℕ) % 64, by have h : (y 2 : ℕ) < 512 := (y 2).isLt; omega⟩)) := by
  have hi := coord t
  unfold Gen.outsAt0
  frame_out
  generalize iblk m c 0 t = A, iblk m c 8 t = B, X0_1 m c t = x1, iblk m c 2 t = x2, iblk m c 3 t = x3, iblk m c 4 t = x4,
    iblk m c 5 t = x5, iblk m c 6 t = x6, iblk m c 7 t = x7
  generalize grid0.coords t = i at hi ⊢
  generalize t.val % 32 = n at hi ⊢
  canon_tiles x h
  all_goals
    refine (headV_at _ _ _ x).trans (row_congr (fun k => ?_) ?_ (fun k => ?_))
    · pointwise [k0_pay1, k0_pay5, k0_pay6, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26,
        k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48,
        k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70,
        k0_pay72, k0_pay73, k0_pay74, k0_pay75, k0_pay76, k0_pay77, k0_pay78, k0_pay79, k0_pay80, k0_pay81, k0_pay82,
        k0_pay83, k0_pay84, k0_pay85, k0_pay86, k0_pay87, k0_pay88, k0_pay89, score, mask_bot]
      first
      | rw [if_neg (by omega)]
      | refine (select_bit (first_bit i (x 1) k) _ _).trans (if_congr (by omega) rfl ?_)
      | refine (select_bit (last_bit i (x 1) k) _ _).trans (if_congr (by omega) rfl ?_)
      generalize k0_pay2 x1 = Q, k0_pay3 x2 x3 x4 = K
      blk_point []
    · pointwise
      blk_ext
    · pointwise [k0_pay5, k0_pay6, k0_pay28, k0_pay29, k0_pay50, k0_pay51, k0_pay69, k0_pay70]
      blk_ext

end Cert.AttnIdeal.Layer

end
-- ==== Proof.AttnMask.lean ====
/-
Where the positions of a window lie on the sequence, as the reference's 32-bit integers decide it.
-/
module

public import Idealize.ShloMosaic.Lib.Pipeline.ValueKit

@[expose] public section

noncomputable section

open Idealize.ShloMosaic

namespace Cert.AttnRefIdeal.Layer

/-- Where the window's positions lie on the sequence, as the reference's integers decide it. -/
theorem valid_bits : ∀ (n : Fin 128) (k : Fin 384),
    IntOp.andi (IntOp.cmpi .sge (IntOp.addi (IntOp.muli (BitVec.ofNat 32 n) 128#32) (IntOp.subi (BitVec.ofNat 32 k) 128#32)) 0#32)
        (IntOp.cmpi .slt (IntOp.addi (IntOp.muli (BitVec.ofNat 32 n) 128#32) (IntOp.subi (BitVec.ofNat 32 k) 128#32)) 16384#32) = 1#1
      ↔ (128 ≤ (n : ℕ) * 128 + k ∧ (n : ℕ) * 128 + k < 16512) := by
  decide +kernel

end Cert.AttnRefIdeal.Layer

end
-- ==== Proof.AttnRef.lean ====
/-
The window attention's reference, read at an index: every entry of its result is one row of an attention with a sink,
over the keys and values of the three blocks around the row's own, which are zero off the sequence.
-/
module

public import proofs.«01_k».proof.Proof.Gen.AttnRefIdeal.Read
public import proofs.«01_k».proof.Proof.Sink
public import proofs.«01_k».proof.Proof.AttnMask
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.AttnRefIdeal.Layer

open Cert.AttnRefIdeal Cert.AttnRefIdeal.Gen Cert.AttnRefIdeal.Read Cert.Sink

/-- The number both programs start a maximum from is minus infinity. -/
theorem neg_inf : Ideal.ofBits FTy.f32 0xFF800000#32 = (⊥ : EReal) := by
  first | rfl | (simp [Ideal.ofBits]; done) | decide

/-- A column of the keys or values at position `k` of the window of block `n`: zero off the sequence. -/
def padded (x : FVec Ideal S3x16384x768 .f32) (b : Fin 3) (n : Fin 128) (k : Fin 384) (col : Fin 768) : EReal :=
  if h : 128 ≤ (n : ℕ) * 128 + k ∧ (n : ℕ) * 128 + k < 16512 then x (ix3 b ⟨(n : ℕ) * 128 + k - 128, by omega⟩ col) else 0

/-- The number the padding is made of is zero. -/
theorem pad_zero : val_main_call0_v0 (F := Ideal) (Shape.Idx.first h_S_) = (0 : EReal) := by
  rw [val_main_call0_v0_apply, val_main_c_apply]
  change (((0#32 : BitVec 32).toInt : ℝ) : EReal) = 0
  simp

/-- The number the values' padding is made of is zero. -/
theorem pad_zero' : val_main_call1_v0 (F := Ideal) (Shape.Idx.first h_S_) = (0 : EReal) := by
  rw [val_main_call1_v0_apply, val_main_c_0_apply]
  change (((0#32 : BitVec 32).toInt : ℝ) : EReal) = 0
  simp

/-- The keys with a block of zeros at each end. -/
theorem keys_pad (x : FVec Ideal S3x16384x768 .f32) (b : Fin 3) (l : Fin 16640) (h : Fin 2) (d : Fin 64) :
    val_main_v7 (F := Ideal) x (ix4 b l h d)
      = if hl : 128 ≤ (l : ℕ) ∧ (l : ℕ) < 16512 then x (ix3 b ⟨(l : ℕ) - 128, by omega⟩ ⟨512 + ((h : ℕ) * 64 + d), by omega⟩) else 0 := by
  unfold val_main_v7
  by_cases hl : 128 ≤ (l : ℕ) ∧ (l : ℕ) < 16512
  · rw [dif_pos hl]
    refine (pad_apply_of_inside _ _ _ _ _ _ _ _ (ix4 b ⟨(l : ℕ) - 128, by omega⟩ h d) (fun a => ?_)).trans ?_
    · match a with
      | ⟨0, _⟩ => show (b : ℕ) = 0 + (b : ℕ) * 1; omega
      | ⟨1, _⟩ => show (l : ℕ) = 128 + ((l : ℕ) - 128) * 1; omega
      | ⟨2, _⟩ => show (h : ℕ) = 0 + (h : ℕ) * 1; omega
      | ⟨3, _⟩ => show (d : ℕ) = 0 + (d : ℕ) * 1; omega
    · rw [val_main_v3_apply, val_main_v2_apply]
      refine congrArg x (funext fun a => Fin.ext ?_)
      fin_cases a <;> dsimp <;> omega
  · rw [dif_neg hl]
    refine (pad_apply_of_not_inside _ _ _ _ _ _ _ _ 1 (fun hin => hl ?_)).trans pad_zero
    have h1 : 128 ≤ (l : ℕ) := hin.1
    have h3 : ((l : ℕ) - 128) / 1 < 16384 := hin.2.2
    omega

/-- The values with a block of zeros at each end. -/
theorem vals_pad (x : FVec Ideal S3x16384x768 .f32) (b : Fin 3) (l : Fin 16640) (h : Fin 2) (d : Fin 64) :
    val_main_v9 (F := Ideal) x (ix4 b l h d)
      = if hl : 128 ≤ (l : ℕ) ∧ (l : ℕ) < 16512 then x (ix3 b ⟨(l : ℕ) - 128, by omega⟩ ⟨640 + ((h : ℕ) * 64 + d), by omega⟩) else 0 := by
  unfold val_main_v9
  by_cases hl : 128 ≤ (l : ℕ) ∧ (l : ℕ) < 16512
  · rw [dif_pos hl]
    refine (pad_apply_of_inside _ _ _ _ _ _ _ _ (ix4 b ⟨(l : ℕ) - 128, by omega⟩ h d) (fun a => ?_)).trans ?_
    · match a with
      | ⟨0, _⟩ => show (b : ℕ) = 0 + (b : ℕ) * 1; omega
      | ⟨1, _⟩ => show (l : ℕ) = 128 + ((l : ℕ) - 128) * 1; omega
      | ⟨2, _⟩ => show (h : ℕ) = 0 + (h : ℕ) * 1; omega
      | ⟨3, _⟩ => show (d : ℕ) = 0 + (d : ℕ) * 1; omega
    · rw [val_main_v5_apply, val_main_v4_apply]
      refine congrArg x (funext fun a => Fin.ext ?_)
      fin_cases a <;> dsimp <;> omega
  · rw [dif_neg hl]
    refine (pad_apply_of_not_inside _ _ _ _ _ _ _ _ 1 (fun hin => hl ?_)).trans pad_zero'
    have h1 : 128 ≤ (l : ℕ) := hin.1
    have h3 : ((l : ℕ) - 128) / 1 < 16384 := hin.2.2
    omega

/-- The keys of the padded array, block by block. -/
theorem keys_block (x : FVec Ideal S3x16384x768 .f32) (b : Fin 3) (n : Fin 130) (k : Fin 128) (h : Fin 2) (d : Fin 64) :
    val_main_v8 (F := Ideal) x (ix5 b n k h d)
      = if hl : 128 ≤ (n : ℕ) * 128 + k ∧ (n : ℕ) * 128 + k < 16512 then
          x (ix3 b ⟨(n : ℕ) * 128 + k - 128, by omega⟩ ⟨512 + ((h : ℕ) * 64 + d), by omega⟩) else 0 := by
  rw [val_main_v8_apply]
  refine Eq.trans (congrArg (val_main_v7 (F := Ideal) x) (a₂ := ix4 b ⟨(n : ℕ) * 128 + k, by omega⟩ h d)
    (funext fun a => Fin.ext ?_)) (keys_pad x b _ h d)
  fin_cases a <;> dsimp <;> omega

/-- The values of the padded array, block by block. -/
theorem vals_block (x : FVec Ideal S3x16384x768 .f32) (b : Fin 3) (n : Fin 130) (k : Fin 128) (h : Fin 2) (d : Fin 64) :
    val_main_v10 (F := Ideal) x (ix5 b n k h d)
      = if hl : 128 ≤ (n : ℕ) * 128 + k ∧ (n : ℕ) * 128 + k < 16512 then
          x (ix3 b ⟨(n : ℕ) * 128 + k - 128, by omega⟩ ⟨640 + ((h : ℕ) * 64 + d), by omega⟩) else 0 := by
  rw [val_main_v10_apply]
  refine Eq.trans (congrArg (val_main_v9 (F := Ideal) x) (a₂ := ix4 b ⟨(n : ℕ) * 128 + k, by omega⟩ h d)
    (funext fun a => Fin.ext ?_)) (vals_pad x b _ h d)
  fin_cases a <;> dsimp <;> omega

/-- Two readings of the padded sequence agree when the positions and columns do. -/
theorem padded_congr (x : FVec Ideal S3x16384x768 .f32) (b : Fin 3) (l : ℕ) (n : Fin 128) (k : Fin 384) (col : Fin 768)
    (hlk : l = (n : ℕ) * 128 + k) :
    (if hl : 128 ≤ l ∧ l < 16512 then x (ix3 b ⟨l - 128, by omega⟩ col) else 0) = padded x b n k col := by
  subst hlk; rfl

/-- Three blocks laid end to end along the window. -/
theorem three (A B C : FVec Ideal S3x128x128x2x64 .f32) (b : Fin 3) (n : Fin 128) (k : Fin 384) (h : Fin 2) (d : Fin 64) :
    concatenate S3x128x384x2x64 2 [⟨S3x128x128x2x64, A⟩, ⟨S3x128x128x2x64, B⟩, ⟨S3x128x128x2x64, C⟩]
        concatenates_S3x128x128x2x64_S3x128x128x2x64_S3x128x128x2x64_S3x128x384x2x64_d2 (ix5 b n k h d)
      = if h1 : (k : ℕ) < 128 then A (ix5 b n ⟨(k : ℕ), h1⟩ h d)
        else if h2 : (k : ℕ) < 256 then B (ix5 b n ⟨(k : ℕ) - 128, by omega⟩ h d)
        else C (ix5 b n ⟨(k : ℕ) - 256, by omega⟩ h d) := by
  have hk := k.isLt
  have off : ∀ (q : Fin 128) (a : Fin 5), a ≠ 2 →
      ((ix5 b n q h d : S3x128x128x2x64.Idx) a : ℕ) = (ix5 b n k h d : S3x128x384x2x64.Idx) a := fun q a ha => by
    match a with
    | ⟨0, _⟩ => rfl
    | ⟨1, _⟩ => rfl
    | ⟨2, _⟩ => exact absurd rfl ha
    | ⟨3, _⟩ => rfl
    | ⟨4, _⟩ => rfl
  by_cases h1 : (k : ℕ) < 128
  · rw [dif_pos h1]
    exact concatenate_apply_piece (t := S3x128x384x2x64) 2 [⟨S3x128x128x2x64, A⟩, ⟨S3x128x128x2x64, B⟩, ⟨S3x128x128x2x64, C⟩] _
      (ix5 b n k h d) 0 (by simp) S3x128x128x2x64 A rfl rfl 0 rfl (ix5 b n ⟨(k : ℕ), h1⟩ h d) (fun a ha => off _ a ha)
      (by show 0 + (k : ℕ) = k; omega)
  rw [dif_neg h1]
  by_cases h2 : (k : ℕ) < 256
  · rw [dif_pos h2]
    exact concatenate_apply_piece (t := S3x128x384x2x64) 2 [⟨S3x128x128x2x64, A⟩, ⟨S3x128x128x2x64, B⟩, ⟨S3x128x128x2x64, C⟩] _
      (ix5 b n k h d) 1 (by simp) S3x128x128x2x64 B rfl rfl 128 rfl (ix5 b n ⟨(k : ℕ) - 128, by omega⟩ h d) (fun a ha => off _ a ha)
      (by show 128 + ((k : ℕ) - 128) = k; omega)
  · rw [dif_neg h2]
    exact concatenate_apply_piece (t := S3x128x384x2x64) 2 [⟨S3x128x128x2x64, A⟩, ⟨S3x128x128x2x64, B⟩, ⟨S3x128x128x2x64, C⟩] _
      (ix5 b n k h d) 2 (by simp) S3x128x128x2x64 C rfl rfl 256 rfl (ix5 b n ⟨(k : ℕ) - 256, by omega⟩ h d) (fun a ha => off _ a ha)
      (by show 256 + ((k : ℕ) - 256) = k; omega)

/-- The keys of the three blocks around block `n`. -/
theorem keys (x : FVec Ideal S3x16384x768 .f32) (b : Fin 3) (n : Fin 128) (k : Fin 384) (h : Fin 2) (d : Fin 64) :
    val_main_v14 (F := Ideal) x (ix5 b n k h d) = padded x b n k ⟨512 + ((h : ℕ) * 64 + d), by omega⟩ := by
  have hk := k.isLt
  unfold val_main_v14
  refine (three _ _ _ b n k h d).trans ?_
  by_cases h1 : (k : ℕ) < 128
  · rw [dif_pos h1, val_main_v11_apply]
    refine (congrArg (val_main_v8 (F := Ideal) x) (a₂ := ix5 b ⟨(n : ℕ), by omega⟩ ⟨(k : ℕ), by omega⟩ h d) (funext fun a => Fin.ext ?_)).trans
      ((keys_block x b _ _ h d).trans (padded_congr x b _ n k _ ?_))
    · fin_cases a <;> rfl
    · rfl
  rw [dif_neg h1]
  by_cases h2 : (k : ℕ) < 256
  · rw [dif_pos h2, val_main_v12_apply]
    refine (congrArg (val_main_v8 (F := Ideal) x) (a₂ := ix5 b ⟨1 + (n : ℕ), by omega⟩ ⟨(k : ℕ) - 128, by omega⟩ h d) (funext fun a => Fin.ext ?_)).trans
      ((keys_block x b _ _ h d).trans (padded_congr x b _ n k _ ?_))
    · fin_cases a <;> rfl
    · dsimp; omega
  rw [dif_neg h2]
  · rw [val_main_v13_apply]
    refine (congrArg (val_main_v8 (F := Ideal) x) (a₂ := ix5 b ⟨2 + (n : ℕ), by omega⟩ ⟨(k : ℕ) - 256, by omega⟩ h d) (funext fun a => Fin.ext ?_)).trans
      ((keys_block x b _ _ h d).trans (padded_congr x b _ n k _ ?_))
    · fin_cases a <;> rfl
    · dsimp; omega

/-- The values of the three blocks around block `n`. -/
theorem vals (x : FVec Ideal S3x16384x768 .f32) (b : Fin 3) (n : Fin 128) (k : Fin 384) (h : Fin 2) (d : Fin 64) :
    val_main_v18 (F := Ideal) x (ix5 b n k h d) = padded x b n k ⟨640 + ((h : ℕ) * 64 + d), by omega⟩ := by
  have hk := k.isLt
  unfold val_main_v18
  refine (three _ _ _ b n k h d).trans ?_
  by_cases h1 : (k : ℕ) < 128
  · rw [dif_pos h1, val_main_v15_apply]
    refine (congrArg (val_main_v10 (F := Ideal) x) (a₂ := ix5 b ⟨(n : ℕ), by omega⟩ ⟨(k : ℕ), by omega⟩ h d) (funext fun a => Fin.ext ?_)).trans
      ((vals_block x b _ _ h d).trans (padded_congr x b _ n k _ ?_))
    · fin_cases a <;> rfl
    · rfl
  rw [dif_neg h1]
  by_cases h2 : (k : ℕ) < 256
  · rw [dif_pos h2, val_main_v16_apply]
    refine (congrArg (val_main_v10 (F := Ideal) x) (a₂ := ix5 b ⟨1 + (n : ℕ), by omega⟩ ⟨(k : ℕ) - 128, by omega⟩ h d) (funext fun a => Fin.ext ?_)).trans
      ((vals_block x b _ _ h d).trans (padded_congr x b _ n k _ ?_))
    · fin_cases a <;> rfl
    · dsimp; omega
  rw [dif_neg h2]
  · rw [val_main_v17_apply]
    refine (congrArg (val_main_v10 (F := Ideal) x) (a₂ := ix5 b ⟨2 + (n : ℕ), by omega⟩ ⟨(k : ℕ) - 256, by omega⟩ h d) (funext fun a => Fin.ext ?_)).trans
      ((vals_block x b _ _ h d).trans (padded_congr x b _ n k _ ?_))
    · fin_cases a <;> rfl
    · dsimp; omega

/-- The queries, split into blocks and heads. -/
theorem queries (x : FVec Ideal S3x16384x768 .f32) (b : Fin 3) (n : Fin 128) (r : Fin 128) (h : Fin 2) (g : Fin 4) (d : Fin 64) :
    val_main_v6 (F := Ideal) x (ix6 b n r h g d)
      = x (ix3 b ⟨(n : ℕ) * 128 + r, by omega⟩ ⟨((h : ℕ) * 4 + g) * 64 + d, by omega⟩) := by
  unfold val_main_v6
  refine (shapeCast_apply _ _ _ (ix4 b ⟨(n : ℕ) * 128 + r, by omega⟩ ⟨(h : ℕ) * 4 + g, by omega⟩ d) ?_).trans ?_
  · rewrite [Shape.rowMajor_val_six, Shape.rowMajor_val_four]
    show ((((b : ℕ) * 16384 + ((n : ℕ) * 128 + r)) * 8 + ((h : ℕ) * 4 + g)) * 64 + d : ℕ)
      = (((((b : ℕ) * 128 + n) * 128 + r) * 2 + h) * 4 + g) * 64 + d
    omega
  · rw [val_main_v1_apply, val_main_v0_apply]
    refine congrArg x (funext fun a => Fin.ext ?_)
    fin_cases a <;> dsimp <;> omega

/-- Both of two bits are set when their conjunction is. -/
theorem both (a b : BitVec 1) : IntOp.andi a b = 1#1 ↔ a = 1#1 ∧ b = 1#1 := by
  revert a b; decide

/-- The reference's mask: the position is on the sequence, and not too far from the row's own. -/
theorem mask (n : Fin 128) (r : Fin 128) (k : Fin 384) :
    val_main_v81 (F := Ideal) (ix3 n r k) = 1#1
      ↔ (128 ≤ (n : ℕ) * 128 + k ∧ (n : ℕ) * 128 + k < 16512) ∧ val_main_v77 (F := Ideal) (ix2 r k) = 1#1 := by
  rw [val_main_v81_apply, both, val_main_v79_apply, val_main_v74_apply, val_main_v80_apply, val_main_v78_apply]
  refine and_congr ?_ (Eq.congr (congrArg (val_main_v77 (F := Ideal)) (funext fun a => by fin_cases a <;> rfl)) rfl)
  refine Iff.trans (Eq.congr ?_ rfl) (valid_bits n k)
  rw [val_main_v73_apply, val_main_v70_apply, val_main_v72_apply, val_main_v68_apply, val_main_v66_apply, val_main_v67_apply,
    val_main_v64_apply, val_main_v65_apply, val_main_v63_apply, val_main_v22_apply, val_main_v61_apply, val_main_v62_apply,
    val_main_v20_apply, val_main_v21_apply, val_main_v69_apply, val_main_v71_apply, val_main_c_13_apply, val_main_c_1_apply,
    val_main_c_14_apply, val_main_c_15_apply]
  rfl

/-- A choice by a bit is a choice by what the bit decides. -/
theorem select_bit {b : BitVec 1} {P : Prop} [Decidable P] (h : b = 1#1 ↔ P) (u z : EReal) :
    Scalar.select b u z = if P then u else z := by
  unfold Scalar.select
  by_cases hp : P
  · rw [if_pos hp, h.mpr hp]; rfl
  · rw [if_neg hp]; exact if_neg fun hb => hp (h.mp hb)

/-- The reference's scores, read at an index. -/
theorem ref_score (x : FVec Ideal S3x16384x768 .f32) (w : FVec Ideal S32x8 .f32)
    (b : Fin 3) (n : Fin 128) (h : Fin 2) (g : Fin 4) (r : Fin 128) (k : Fin 384) :
    val_main_v90 (F := Ideal) x w (ix6 b n h g r k)
      = if (128 ≤ (n : ℕ) * 128 + k ∧ (n : ℕ) * 128 + k < 16512) ∧ val_main_v77 (F := Ideal) (ix2 r k) = 1#1 then
          (∑ d : Fin 64, x (ix3 b ⟨(n : ℕ) * 128 + r, by omega⟩ ⟨((h : ℕ) * 4 + g) * 64 + d, by omega⟩)
              * padded x b n k ⟨512 + ((h : ℕ) * 64 + d), by omega⟩) * Ideal.ofBits FTy.f32 0x3E000000#32
            + val_main_v59 (F := Ideal) w (ix3 ⟨(h : ℕ) * 4 + g, by omega⟩ r k)
        else ⊥ := by
  rw [val_main_v90_apply, val_main_call4_v1_apply, val_main_v89_apply, val_main_call4_v2_apply, val_main_call4_v0_apply,
    val_main_cst_18_apply]
  have hb : val_main_v81 (F := Ideal) (idx_main_v89 (idx_main_call4_v1 (ix6 b n h g r k))) = 1#1 ↔ _ :=
    (Eq.congr (congrArg (val_main_v81 (F := Ideal)) (a₂ := ix3 n r k) (funext fun a => by fin_cases a <;> rfl)) rfl).trans
      (mask n r k)
  refine (select_bit hb _ _).trans (if_congr Iff.rfl ?_ neg_inf)
  rw [val_main_v88_apply, val_main_v85_apply, val_main_v83_apply, val_main_v82_apply, val_main_v84_apply, val_main_cst_17_apply,
    val_main_v87_apply, val_main_v86_apply, val_main_v60_apply]
  refine congrArg₂ (fun u v : EReal => u + v) (congrArg (fun u : EReal => u * Ideal.ofBits FTy.f32 0x3E000000#32) (Finset.sum_congr rfl fun d _ => ?_)) ?_
  · refine (mul_comm _ _).trans (congrArg₂ (fun u v : EReal => u * v) ?_ ?_)
    · exact (congrArg (val_main_v6 (F := Ideal) x) (a₂ := ix6 b n r h g d) (funext fun a => by fin_cases a <;> rfl)).trans
        (queries x b n r h g d)
    · exact (congrArg (val_main_v14 (F := Ideal) x) (a₂ := ix5 b n k h d) (funext fun a => by fin_cases a <;> rfl)).trans
        (keys x b n k h d)
  · refine congrArg (val_main_v59 (F := Ideal) w) (funext fun a => Fin.ext ?_)
    have hr := r.isLt
    have hk := k.isLt
    fin_cases a <;> dsimp <;> omega

/-- The sink's logit, at every place the reference spreads it to. -/
theorem ref_sink (s : FVec Ideal S8 .f32) (h : Fin 2) (g : Fin 4) :
    val_main_v92 (F := Ideal) s (ix6 0 0 h g 0 0) = s (ix1 ⟨(h : ℕ) * 4 + g, by omega⟩) := by
  rw [val_main_v92_apply, val_main_v91_apply]
  exact congrArg s (funext fun a => by fin_cases a; rfl)

/-- The reference's maximum over a row of scores and the sink. -/
theorem ref_top (x : FVec Ideal S3x16384x768 .f32) (w : FVec Ideal S32x8 .f32) (s : FVec Ideal S8 .f32)
    (b : Fin 3) (n : Fin 128) (h : Fin 2) (g : Fin 4) (r : Fin 128) :
    val_main_v96 (F := Ideal) x w s (ix6 b n h g r 0)
      = top (fun k : Fin 384 => val_main_v90 (F := Ideal) x w (ix6 b n h g r k)) (s (ix1 ⟨(h : ℕ) * 4 + g, by omega⟩)) := by
  rw [val_main_v96_apply, val_main_v94_apply, val_main_v95_apply]
  refine congrArg₂ (fun u v : EReal => max u v) ?_
    ((congrArg (val_main_v92 (F := Ideal) s) (funext fun a => by fin_cases a <;> rfl)).trans (ref_sink s h g))
  unfold val_main_v93
  generalize val_main_v90 (F := Ideal) x w = y
  rw [Host.reduce_eq_fold_single _ _ _ reducesTo_S3x128x2x4x128x384_S3x128x2x4x128_d5 (by decide) h_S_, val_main_cst_19_apply]
  change Finset.fold max (Ideal.ofBits FTy.f32 0xFF800000#32) _ _ = _
  rw [neg_inf]
  refine congrArg (fun f => Finset.univ.fold max ⊥ f) (funext fun k => ?_)
  exact congrArg y (funext fun a => Fin.ext (by
    match a with | ⟨0, _⟩ => rfl | ⟨1, _⟩ => rfl | ⟨2, _⟩ => rfl | ⟨3, _⟩ => rfl | ⟨4, _⟩ => rfl | ⟨5, _⟩ => rfl))

/-- The reference's exponentials of the scores, less the row's maximum. -/
theorem ref_exp (x : FVec Ideal S3x16384x768 .f32) (w : FVec Ideal S32x8 .f32) (s : FVec Ideal S8 .f32)
    (b : Fin 3) (n : Fin 128) (h : Fin 2) (g : Fin 4) (r : Fin 128) (k : Fin 384) :
    val_main_v99 (F := Ideal) x w s (ix6 b n h g r k)
      = Ideal.exp (val_main_v90 (F := Ideal) x w (ix6 b n h g r k)
          - top (fun l : Fin 384 => val_main_v90 (F := Ideal) x w (ix6 b n h g r l)) (s (ix1 ⟨(h : ℕ) * 4 + g, by omega⟩))) := by
  rw [val_main_v99_apply, val_main_v98_apply, val_main_v97_apply, ← ref_top]
  exact congrArg (fun u => Ideal.exp (val_main_v90 (F := Ideal) x w (ix6 b n h g r k) - val_main_v96 (F := Ideal) x w s u))
    (funext fun a => by fin_cases a <;> rfl)

/-- The reference's normaliser. -/
theorem ref_denom (x : FVec Ideal S3x16384x768 .f32) (w : FVec Ideal S32x8 .f32) (s : FVec Ideal S8 .f32)
    (b : Fin 3) (n : Fin 128) (h : Fin 2) (g : Fin 4) (r : Fin 128) :
    val_main_v105 (F := Ideal) x w s (ix6 b n h g r 0)
      = denom (fun k : Fin 384 => val_main_v90 (F := Ideal) x w (ix6 b n h g r k)) (s (ix1 ⟨(h : ℕ) * 4 + g, by omega⟩)) := by
  rw [val_main_v105_apply, val_main_v101_apply, val_main_v100_apply, val_main_v104_apply, val_main_v103_apply, val_main_v102_apply,
    val_main_cst_20_apply]
  refine congrArg₂ (fun u v : EReal => u + v) ?_ ?_
  · change Ideal.ofBits FTy.f32 0x00000000#32 + _ = _
    rw [Ideal.ofBits_zero_f32, zero_add]
    refine Finset.sum_congr rfl fun k _ => ?_
    exact (congrArg (val_main_v99 (F := Ideal) x w s) (a₂ := ix6 b n h g r k) (funext fun a => by fin_cases a <;> rfl)).trans
      (ref_exp x w s b n h g r k)
  · refine congrArg₂ (fun u v : EReal => Ideal.exp (u - v)) ?_ (ref_top x w s b n h g r)
    exact (congrArg (val_main_v92 (F := Ideal) s) (funext fun a => by fin_cases a <;> rfl)).trans (ref_sink s h g)

/-- The reference's result, read at an index, is one row of an attention with a sink. -/
theorem ref_at (x : FVec Ideal S3x16384x768 .f32) (w : FVec Ideal S32x8 .f32) (s : FVec Ideal S8 .f32)
    (b : Fin 3) (r : Fin 16384) (e : Fin 512) :
    val_main_v111 (F := Ideal) x w s (ix3 b r e)
      = row (fun k : Fin 384 => val_main_v90 (F := Ideal) x w
            (ix6 b ⟨(r : ℕ) / 128, by omega⟩ ⟨(e : ℕ) / 256, by omega⟩ ⟨(e : ℕ) / 64 % 4, by omega⟩ ⟨(r : ℕ) % 128, by omega⟩ k))
          (s (ix1 ⟨(e : ℕ) / 64, by omega⟩))
          (fun k => padded x b ⟨(r : ℕ) / 128, by omega⟩ k ⟨640 + ((e : ℕ) / 256 * 64 + e % 64), by omega⟩) := by
  have hr := r.isLt
  have he := e.isLt
  rw [val_main_v111_apply]
  unfold val_main_v110
  refine (shapeCast_apply _ _ _ (ix6 b ⟨(r : ℕ) / 128, by omega⟩ ⟨(r : ℕ) % 128, by omega⟩ ⟨(e : ℕ) / 256, by omega⟩
    ⟨(e : ℕ) / 64 % 4, by omega⟩ ⟨(e : ℕ) % 64, by omega⟩) ?_).trans ?_
  · rewrite [Shape.rowMajor_val_six, Shape.rowMajor_val_three]
    show (((((b : ℕ) * 128 + (r : ℕ) / 128) * 128 + (r : ℕ) % 128) * 2 + (e : ℕ) / 256) * 4 + (e : ℕ) / 64 % 4) * 64 + (e : ℕ) % 64
      = ((b : ℕ) * 16384 + r) * 512 + e
    omega
  rw [val_main_v109_apply, val_main_v108_apply]
  unfold row
  refine Finset.sum_congr rfl fun k _ => ?_
  refine (mul_comm _ _).trans (congrArg₂ (fun u v : EReal => u * v) ?_ ?_)
  · refine (congrArg (val_main_v107 (F := Ideal) x w s) (a₂ := ix6 b ⟨(r : ℕ) / 128, by omega⟩ ⟨(e : ℕ) / 256, by omega⟩
      ⟨(e : ℕ) / 64 % 4, by omega⟩ ⟨(r : ℕ) % 128, by omega⟩ k) (funext fun a => by fin_cases a <;> rfl)).trans ?_
    rw [val_main_v107_apply, val_main_v106_apply, ref_exp]
    have hs : s (ix1 ⟨(e : ℕ) / 256 * 4 + (e : ℕ) / 64 % 4, by omega⟩) = s (ix1 ⟨(e : ℕ) / 64, by omega⟩) :=
      congrArg (fun u => s (ix1 u)) (Fin.ext (by dsimp; omega))
    refine congrArg₂ Ideal.div (congrArg (fun u => Ideal.exp (_ - top _ u)) hs) ?_
    refine (congrArg (val_main_v105 (F := Ideal) x w s) (a₂ := ix6 b ⟨(r : ℕ) / 128, by omega⟩ ⟨(e : ℕ) / 256, by omega⟩
      ⟨(e : ℕ) / 64 % 4, by omega⟩ ⟨(r : ℕ) % 128, by omega⟩ 0) (funext fun a => by fin_cases a <;> rfl)).trans ?_
    exact (ref_denom x w s _ _ _ _ _).trans (congrArg (denom _) hs)
  · exact (congrArg (val_main_v18 (F := Ideal) x) (a₂ := ix5 b ⟨(r : ℕ) / 128, by omega⟩ k ⟨(e : ℕ) / 256, by omega⟩
      ⟨(e : ℕ) % 64, by omega⟩) (funext fun a => by fin_cases a <;> rfl)).trans (vals x b _ k _ _)

end Cert.AttnRefIdeal.Layer

end
-- ==== Proof.Attn.lean ====
/-
The window attention: the array the kernel leaves is the reference's. The kernel keeps the two edges of the sequence
inside the array by reading the edge block twice and masking it; the reference pads with zeros and masks the padding.
-/
module

public import proofs.«01_k».proof.Proof.AttnTile
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.AttnIdeal.Layer

open Cert.AttnIdeal Cert.AttnIdeal.Gen Cert.Sink
open Cert.AttnRefIdeal.Read
open Cert.AttnRefIdeal.Layer (padded ref_score ref_at)

variable (m : (ℓ : Loc nD τ sig) → Buf (Elt Ideal) ℓ)

/-- The block every window stands at, at every grid point. -/
theorem idx : ∀ t : Fin cfg0.N, win0_0.index t = ![0]
    ∧ win0_1.index t = ![t.val / 32, t.val % 32, 0]
    ∧ win0_2.index t = ![t.val / 32, t.val % 32 * 4 - 1, 4]
    ∧ win0_3.index t = ![t.val / 32, t.val % 32, 4]
    ∧ win0_4.index t = ![t.val / 32, min ((t.val % 32 + 1) * 4) 127, 4]
    ∧ win0_5.index t = ![t.val / 32, t.val % 32 * 4 - 1, 5]
    ∧ win0_6.index t = ![t.val / 32, t.val % 32, 5]
    ∧ win0_7.index t = ![t.val / 32, min ((t.val % 32 + 1) * 4) 127, 5]
    ∧ win0_8.index t = ![0, 0, 0]
    ∧ win0_9.index t = ![t.val / 32, t.val % 32, 0] :=
  (by decide +kernel : ∀ t : Fin grid0.N, _)

/-- The row of the sequence behind row `l` of the keys a step holds: the block before, its own four, the block after,
    where the block before the first and the block behind the last are the first and the last themselves. -/
def pos (i l : ℕ) : ℕ :=
  if i = 0 ∧ l < 128 then l else if i = 31 ∧ 640 ≤ l then 16256 + (l - 640) else 512 * i + l - 128

theorem pos_lt {i l : ℕ} (hi : i < 32) (hl : l < 768) : pos i l < 16384 := by
  unfold pos
  split
  · omega
  · split <;> omega

/-- A row of the kernel's attention is the reference's, from what its blocks hold. -/
theorem kernel_row (x : FVec Ideal Cert.AttnRefIdeal.S3x16384x768 .f32) (w : FVec Ideal Cert.AttnRefIdeal.S32x8 .f32)
    (s : FVec Ideal Cert.AttnRefIdeal.S8 .f32) (i : ℕ) (hi : i < 32) (b : Fin 3) (r e : Fin 512)
    (Q : FVec Ideal S512x512 .bf16) (K W : FVec Ideal S768x128 .bf16) (B : FVec Ideal S8x128x384 .f32)
    (hQ : ∀ (r e : Fin 512), Q (ix2 r e) = x (ix3 b ⟨i * 512 + r, by omega⟩ ⟨(e : ℕ), by omega⟩))
    (hK : ∀ (l : Fin 768) (d : Fin 128), K (ix2 l d) = x (ix3 b ⟨pos i l, pos_lt hi l.isLt⟩ ⟨512 + (d : ℕ), by omega⟩))
    (hW : ∀ (l : Fin 768) (d : Fin 128), W (ix2 l d) = x (ix3 b ⟨pos i l, pos_lt hi l.isLt⟩ ⟨640 + (d : ℕ), by omega⟩))
    (hB : ∀ (h : Fin 8) (r : Fin 128) (k : Fin 384), B (ix3 h r k)
      = if val_main_v77 (F := Ideal) (ix2 r k) = 1#1 then val_main_v59 (F := Ideal) w (ix3 h r k) else ⊥) :
    row (fun k : Fin 384 => score i Q K B r ⟨(e : ℕ) / 64, by omega⟩ k) (s (ix1 ⟨(e : ℕ) / 64, by omega⟩))
        (fun k => W (ix2 ⟨(r : ℕ) / 128 * 128 + k, by omega⟩ ⟨(e : ℕ) / 256 * 64 + (e : ℕ) % 64, by omega⟩))
      = val_main_v111 (F := Ideal) x w s (ix3 b ⟨i * 512 + r, by omega⟩ e) := by
  have hr := r.isLt
  have he := e.isLt
  refine Eq.trans ?_ (ref_at x w s b _ e).symm
  refine (row_congr (fun k => ?_) rfl fun _ => rfl).trans (row_off _ _ _ _
    (fun k : Fin 384 => i = 0 ∧ (r : ℕ) < 128 ∧ (k : ℕ) < 128 ∨ i = 31 ∧ 384 ≤ (r : ℕ) ∧ 256 ≤ (k : ℕ))
    (fun k : Fin 384 => if i = 0 then ⟨((k : ℕ) + 128) % 384, by omega⟩ else ⟨(k : ℕ) - 128, by omega⟩) ?_ ?_ ?_ ?_)
  · refine Eq.trans ?_ (ref_score x w b _ _ _ _ k).symm
    have hk := k.isLt
    unfold score
    by_cases ho : i = 0 ∧ (r : ℕ) < 128 ∧ (k : ℕ) < 128 ∨ i = 31 ∧ 384 ≤ (r : ℕ) ∧ 256 ≤ (k : ℕ)
    · rw [if_pos ho, if_neg]
      rintro ⟨h1, -⟩
      dsimp at h1
      omega
    · have hon : 128 ≤ (i * 512 + (r : ℕ)) / 128 * 128 + k ∧ (i * 512 + (r : ℕ)) / 128 * 128 + k < 16512 := by omega
      have hp : pos i ((r : ℕ) / 128 * 128 + k) = (i * 512 + (r : ℕ)) / 128 * 128 + k - 128 := by
        unfold pos
        rw [if_neg (by omega), if_neg (by omega)]
        omega
      have hrr : (⟨(r : ℕ) % 128, by omega⟩ : Fin 128) = ⟨(i * 512 + (r : ℕ)) % 128, by omega⟩ := Fin.ext (by dsimp; omega)
      have hhh : (⟨(e : ℕ) / 64, by omega⟩ : Fin 8) = ⟨(e : ℕ) / 256 * 4 + (e : ℕ) / 64 % 4, by omega⟩ := Fin.ext (by dsimp; omega)
      rw [if_neg ho, hB, hrr, hhh]
      by_cases hv : val_main_v77 (F := Ideal) (ix2 ⟨(i * 512 + (r : ℕ)) % 128, by omega⟩ k) = 1#1
      · rw [if_pos hv, if_pos ⟨hon, hv⟩]
        refine congrArg₂ (fun u v : EReal => u + v) (congrArg (fun u : EReal => u * Ideal.ofBits FTy.f32 0x3E000000#32)
          (Finset.sum_congr rfl fun d _ => congrArg₂ (fun u v : EReal => u * v) ?_ ?_)) rfl
        · refine (hQ _ _).trans (congrArg x (funext fun a => Fin.ext ?_))
          fin_cases a <;> dsimp <;> omega
        · refine (hK _ _).trans ?_
          unfold padded
          rw [dif_pos hon]
          refine congrArg x (funext fun a => Fin.ext ?_)
          fin_cases a
          · rfl
          · exact hp
          · dsimp; omega
      · rw [if_neg hv, if_neg (fun h => hv h.2)]
        exact EReal.add_bot _
  · intro k ho
    rw [ref_score, if_neg]
    rintro ⟨h1, -⟩
    dsimp at h1
    omega
  · intro k ho
    have hk := k.isLt
    have hon : 128 ≤ (i * 512 + (r : ℕ)) / 128 * 128 + k ∧ (i * 512 + (r : ℕ)) / 128 * 128 + k < 16512 := by omega
    have hp : pos i ((r : ℕ) / 128 * 128 + k) = (i * 512 + (r : ℕ)) / 128 * 128 + k - 128 := by
      unfold pos
      rw [if_neg (by omega), if_neg (by omega)]
      omega
    refine (hW _ _).trans ?_
    unfold padded
    rw [dif_pos hon]
    refine congrArg x (funext fun a => Fin.ext ?_)
    fin_cases a
    · rfl
    · exact hp
    · rfl
  · intro k ho
    unfold padded
    rw [dif_neg]
    dsimp
    omega
  · intro k ho
    have hk := k.isLt
    refine ⟨?_, ?_⟩
    · split <;> dsimp <;> omega
    · refine (hW _ _).trans (Eq.trans ?_ (hW _ _).symm)
      refine congrArg x (funext fun a => Fin.ext ?_)
      fin_cases a
      · rfl
      · show pos i ((r : ℕ) / 128 * 128 + k) = pos i ((r : ℕ) / 128 * 128 + ((if i = 0 then ⟨((k : ℕ) + 128) % 384, by omega⟩ else ⟨(k : ℕ) - 128, by omega⟩ : Fin 384) : ℕ))
        unfold pos
        by_cases h0 : i = 0
        · simp only [if_pos h0]
          rw [if_pos (by omega), if_neg (by omega), if_neg (by omega)]
          omega
        · simp only [if_neg h0]
          rw [if_neg (by omega), if_pos (by omega), if_neg (by omega), if_neg (by omega)]
          omega
      · rfl

/-- The queries a step holds. -/
theorem q_read (c : Dev nD) (t : Fin cfg0.N) (r e : Fin 512) :
    k0_pay2 (F := Ideal) (X0_1 m c t) (ix2 r e)
      = (show FVec Ideal S3x16384x768 .f32 from m ((c : Thread nD τ).loc main_arg0))
          (ix3 ⟨t.val / 32, by have h : t.val < 96 := t.isLt; omega⟩ ⟨t.val % 32 * 512 + r, by omega⟩ ⟨(e : ℕ), by omega⟩) := by
  pointwise [k0_pay2]
  unfold X0_1 Pipeline.Window.fill
  refine (dif_pos (moved0_1 t _)).trans ?_
  blk_point [iblk, V, idx t]

/-- The keys a step holds. -/
theorem k_read (c : Dev nD) (t : Fin cfg0.N) (l : Fin 768) (d : Fin 128) :
    k0_pay3 (F := Ideal) (iblk m c 2 t) (iblk m c 3 t) (iblk m c 4 t) (ix2 l d)
      = (show FVec Ideal S3x16384x768 .f32 from m ((c : Thread nD τ).loc main_arg0))
          (ix3 ⟨t.val / 32, by have h : t.val < 96 := t.isLt; omega⟩ ⟨pos (t.val % 32) l, pos_lt (by omega) l.isLt⟩
            ⟨512 + (d : ℕ), by omega⟩) := by
  pointwise [k0_pay3]
  unfold pos
  split
  · blk_point [iblk, V, idx t]
    split_ifs <;> omega
  split
  · blk_point [iblk, V, idx t]
    split_ifs <;> omega
  · blk_point [iblk, V, idx t]
    split_ifs <;> omega

/-- The values a step holds. -/
theorem v_read (c : Dev nD) (t : Fin cfg0.N) (l : Fin 768) (d : Fin 128) :
    k0_pay4 (F := Ideal) (iblk m c 5 t) (iblk m c 6 t) (iblk m c 7 t) (ix2 l d)
      = (show FVec Ideal S3x16384x768 .f32 from m ((c : Thread nD τ).loc main_arg0))
          (ix3 ⟨t.val / 32, by have h : t.val < 96 := t.isLt; omega⟩ ⟨pos (t.val % 32) l, pos_lt (by omega) l.isLt⟩
            ⟨640 + (d : ℕ), by omega⟩) := by
  pointwise [k0_pay4]
  unfold pos
  split
  · blk_point [iblk, V, idx t]
    split_ifs <;> omega
  split
  · blk_point [iblk, V, idx t]
    split_ifs <;> omega
  · blk_point [iblk, V, idx t]
    split_ifs <;> omega

/-- The sinks a step holds. -/
theorem sink_read (c : Dev nD) (t : Fin cfg0.N) (h : Fin 8) :
    (show FVec Ideal S8 .f32 from iblk m c 0 t) (ix1 h) = (show FVec Ideal S8 .f32 from m ((c : Thread nD τ).loc main_arg2)) (ix1 h) := by
  blk_point [iblk, V, idx t]

set_option maxHeartbeats 1600000 in
/-- The host operations that make the kernel's bias table, as one expression in the reference's terms. -/
theorem table_ops (c : Dev nD) :
    (show FVec Ideal S8x128x384 .f32 from V m c main_v45)
      = select (broadcastInDim S8x128x384 ![0, 1, 2] bcast_S1x128x384_S8x128x384_0_1_2
            (broadcastInDim S1x128x384 ![1, 2] bcast_S128x384_S1x128x384_1_2
              (val_main_v77 (F := Ideal))))
          (val_main_v59 (F := Ideal) (m ((c : Thread nD τ).loc main_arg1)))
          (broadcastInDim S8x128x384 ![] bcast_S_S8x128x384 (constant S_ .f32 0xFF800000#32 : FVec Ideal S_ .f32) : FVec Ideal S8x128x384 .f32) := by
  unfold V
  simp only [hostOps0, hostOps0_1, hostOps0_2, hostOps0_3, hostOps0_4, hostOps0_5,
    List.flatten_cons, List.flatten_nil, List.append_nil, List.cons_append, List.nil_append]
  simp only [StableHlo.TRef.binary, StableHlo.TRef.ternary, StableHlo.TRef.unary]
  after_results_simp
  rfl

/-- The bias table the kernel's host code makes: the reference's biases, and minus infinity where the distance is too large. -/
theorem table (c : Dev nD) (h : Fin 8) (r : Fin 128) (k : Fin 384) :
    (show FVec Ideal S8x128x384 .f32 from V m c main_v45) (ix3 h r k)
      = if val_main_v77 (F := Ideal) (ix2 r k) = 1#1 then
          val_main_v59 (F := Ideal) (m ((c : Thread nD τ).loc main_arg1)) (ix3 h r k) else ⊥ := by
  refine Eq.trans ?_ (select_bit (P := val_main_v77 (F := Ideal) (ix2 r k) = 1#1) Iff.rfl _ _)
  rw [table_ops]
  generalize val_main_v77 (F := Ideal) = b
  generalize val_main_v59 (F := Ideal) (m ((c : Thread nD τ).loc main_arg1)) = x
  refine congr (congrFun (congrArg Scalar.select ?_) (x (ix3 h r k))) neg_inf
  refine (broadcastInDim_apply _ _ _ (ix3 h r k) (ix3 (0 : Fin 1) r k) ?_).trans
    (broadcastInDim_apply _ _ b _ (ix2 r k) ?_) <;> intro a
  · match a with | ⟨0, _⟩ => rfl | ⟨1, _⟩ => rfl | ⟨2, _⟩ => rfl
  · match a with | ⟨0, _⟩ => rfl | ⟨1, _⟩ => rfl

/-- The bias table a step holds. -/
theorem bias_read (c : Dev nD) (t : Fin cfg0.N) (h : Fin 8) (r : Fin 128) (k : Fin 384) :
    (show FVec Ideal S8x128x384 .f32 from iblk m c 8 t) (ix3 h r k)
      = if val_main_v77 (F := Ideal) (ix2 r k) = 1#1 then
          val_main_v59 (F := Ideal) (m ((c : Thread nD τ).loc main_arg1)) (ix3 h r k) else ⊥ := by
  refine Eq.trans ?_ (table m c h r k)
  blk_point [iblk, idx t]

/-- The array the kernel leaves is the reference's result. -/
theorem final (c : Dev nD) : (dats m 0 c).arrAt 9 (cfgs 0).N
    = val_main_v111 (F := Ideal) (m ((c : Thread nD τ).loc main_arg0)) (m ((c : Thread nD τ).loc main_arg1))
        (m ((c : Thread nD τ).loc main_arg2)) := by
  refine (dats m 0 c).arrAt_eq_of_covers 9 _ (by decide +kernel) fun t _ y => ?_
  have hy1 : (y 1 : ℕ) < 512 := (y 1).isLt
  have ht : t.val < 96 := t.isLt
  blk_simp
  rw [after0_9]
  refine (tile m c t y).trans ?_
  rw [sink_read]
  refine (kernel_row _ _ _ (t.val % 32) (by omega) ⟨t.val / 32, by omega⟩ (y 1) (y 2) _ _ _ _
    (q_read m c t) (k_read m c t) (v_read m c t) (bias_read m c t)).trans ?_
  blk_point [idx t]

end Cert.AttnIdeal.Layer

end
-- ==== Proof.Proj.lean ====
/-
The combined input projection: each of the four arrays the kernel leaves is the reference's.
-/
module

public import proofs.«01_k».proof.Proof.Gen.ProjIdeal.Frame
public import proofs.«01_k».proof.Proof.Gen.ProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Layer

open Cert.ProjIdeal Cert.ProjIdeal.Gen Cert.ProjRefIdeal.Read

variable (m : (ℓ : Loc nD τ sig) → Buf (Elt Ideal) ℓ)

/-- The block every window stands at, at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The window attention's queries, keys and values are the reference's. -/
theorem final_qkv (c : Dev nD) : (dats m 0 c).arrAt 3 (cfgs 0).N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [
    k0_pay1, k0_pay2, k0_pay3, k0_pay4, k0_pay5, k0_pay6, val_main_v0, val_main_v1, val_main_v2, val_main_v3,
    val_main_v4, val_main_v5, val_main_v6, val_main_v7, val_main_v8, val_main_v9, val_main_cst, val_main_v10,
    val_main_v11, val_main_cst_0, val_main_v12, val_main_v13]
  blk_point [iblk, V, idx t]

/-- The long convolution's input columns are the reference's. -/
theorem final_hy (c : Dev nD) : (dats m 0 c).arrAt 4 (cfgs 0).N
    = val_main_v5 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [
    k0_pay1, k0_pay2, k0_pay3, k0_pay4, k0_pay5, k0_pay6, val_main_v0, val_main_v1, val_main_v2, val_main_v3,
    val_main_v4, val_main_v5, val_main_v6, val_main_v7, val_main_v8, val_main_v9, val_main_cst, val_main_v10,
    val_main_v11, val_main_cst_0, val_main_v12, val_main_v13]
  blk_point [iblk, V, idx t]

/-- The memory attention's queries are the reference's. -/
theorem final_qm (c : Dev nD) : (dats m 0 c).arrAt 5 (cfgs 0).N
    = val_main_v6 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [
    k0_pay1, k0_pay2, k0_pay3, k0_pay4, k0_pay5, k0_pay6, val_main_v0, val_main_v1, val_main_v2, val_main_v3,
    val_main_v4, val_main_v5, val_main_v6, val_main_v7, val_main_v8, val_main_v9, val_main_cst, val_main_v10,
    val_main_v11, val_main_cst_0, val_main_v12, val_main_v13]
  blk_point [iblk, V, idx t]

/-- The gates are the reference's: the logistic function of the last columns. -/
theorem final_gates (c : Dev nD) : (dats m 0 c).arrAt 6 (cfgs 0).N
    = val_main_v13 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [
    k0_pay1, k0_pay2, k0_pay3, k0_pay4, k0_pay5, k0_pay6, val_main_v0, val_main_v1, val_main_v2, val_main_v3,
    val_main_v4, val_main_v5, val_main_v6, val_main_v7, val_main_v8, val_main_v9, val_main_cst, val_main_v10,
    val_main_v11, val_main_cst_0, val_main_v12, val_main_v13]
  unfold Ideal.logistic
  blk_point [iblk, V, idx t]

end Cert.ProjIdeal.Layer

end
-- ==== Proof.Merge.lean ====
/-
The merge of the three branches: the array the kernel leaves is the reference's.
-/
module

public import proofs.«01_k».proof.Proof.Gen.MergeIdeal.Frame
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Layer

open Cert.MergeIdeal Cert.MergeIdeal.Gen Cert.MergeRefIdeal.Read

variable (m : (ℓ : Loc nD τ sig) → Buf (Elt Ideal) ℓ)

/-- The block every window stands at, at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0, 0]
    ∧ win0_6.index t = ![0, 0]
    ∧ win0_7.index t = ![0, 0]
    ∧ win0_8.index t = ![0, 0]
    ∧ win0_9.index t = ![t.val, 0] :=
  (by decide +kernel : ∀ t : Fin grid0.N, _)

/-- The array the kernel leaves is the reference's: gated branches, output projection, residual, normalisation. -/
theorem final (c : Dev nD) : (dats m 0 c).arrAt 9 (cfgs 0).N
    = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  frame_out
  pointwise [
    k0_pay1, k0_pay2, val_main_v0, val_main_v1, val_main_v2, val_main_v3, val_main_v4, val_main_v5,
    val_main_v6, val_main_v7, val_main_v8, val_main_v9, val_main_v10, val_main_v11, val_main_v12, val_main_v13,
    val_main_v14, val_main_v15, val_main_v16, val_main_v17, val_main_v18, val_main_v19, val_main_v20,
    val_main_v21, val_main_v22, val_main_cst, val_main_v23, val_main_v24, val_main_v25, val_main_v26,
    val_main_cst_0, val_main_v27, val_main_v28, val_main_cst_1, val_main_v29, val_main_v30, val_main_v31,
    val_main_v32, val_main_v33, val_main_cst_2, val_main_v34, val_main_v35, val_main_cst_3, val_main_v36,
    val_main_v37, val_main_v38, val_main_v39, val_main_cst_4, val_main_v40, val_main_v41, val_main_v42,
    val_main_v43, val_main_v44, val_main_v45, val_main_v46, val_main_v47, val_main_v48, val_main_v49,
    val_main_v50]
  blk_point [iblk, V, idx t]

end Cert.MergeIdeal.Layer

end
-- ==== Proof.Resid.lean ====
/-
The last residual addition and layer normalisation: the array the kernel leaves is the reference's.
-/
module

public import proofs.«01_k».proof.Proof.Gen.ResidIdeal.Frame
public import proofs.«01_k».proof.Proof.Gen.ResidRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ResidIdeal.Layer

open Cert.ResidIdeal Cert.ResidIdeal.Gen Cert.ResidRefIdeal.Read

variable (m : (ℓ : Loc nD τ sig) → Buf (Elt Ideal) ℓ)

/-- The block every window stands at, at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0] :=
  (by decide +kernel : ∀ t : Fin grid0.N, _)

/-- The array the kernel leaves is the reference's result, the layer's output. -/
theorem final (c : Dev nD) : (dats m 0 c).arrAt 4 (cfgs 0).N
    = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [
    k0_pay1, val_main_cst, val_main_v0, val_main_v1, val_main_v2, val_main_cst_0, val_main_v3, val_main_v4,
    val_main_cst_1, val_main_v5, val_main_v6, val_main_v7, val_main_v8, val_main_v9, val_main_cst_2,
    val_main_v10, val_main_v11, val_main_cst_3, val_main_v12, val_main_v13, val_main_v14, val_main_v15,
    val_main_cst_4, val_main_v16, val_main_v17, val_main_v18, val_main_v19, val_main_v20, val_main_v21,
    val_main_v22, val_main_v23, val_main_v24, val_main_v25, val_main_v26]
  blk_point [iblk, V, idx t]

end Cert.ResidIdeal.Layer

end
-- ==== Proof.MemKv.lean ====
/-
The projection of the memory to keys and values: the array the kernel leaves is the reference's.
-/
module

public import proofs.«01_k».proof.Proof.Gen.MemKvIdeal.Frame
public import proofs.«01_k».proof.Proof.Gen.MemKvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemKvIdeal.Layer

open Cert.MemKvIdeal Cert.MemKvIdeal.Gen Cert.MemKvRefIdeal.Read

variable (m : (ℓ : Loc nD τ sig) → Buf (Elt Ideal) ℓ)

/-- The block every window stands at, at every grid point. -/
theorem idx : ∀ t : Fin cfg0.N, win0_0.index t = ![0, 0]
    ∧ win0_1.index t = ![0, 0]
    ∧ win0_2.index t = ![0, 0]
    ∧ win0_3.index t = ![0, 0] :=
  (by decide +kernel : ∀ t : Fin grid0.N, _)

/-- The bias of this call is zero. -/
theorem bias_zero (c : Dev nD) (t : Fin cfg0.N) (x : S1x1024.Idx) :
    (show FVec Ideal S1x1024 .f32 from iblk m c 2 t) x = (0 : EReal) := by
  blk_simp [iblk]
  entry_read
  pointwise

/-- The array the kernel leaves is the reference's matrix product, its two leading axes joined. -/
theorem final (c : Dev nD) : (dats m 0 c).arrAt 3 (cfgs 0).N
    = val_main_v1 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [
    k0_pay1, val_main_v0, val_main_v1]
  refine (congrArg₂ (· + ·) rfl (bias_zero m c t _)).trans ?_
  rw [add_zero]
  blk_point [iblk, V, idx t]

end Cert.MemKvIdeal.Layer

end
-- ==== Proof.MemAttn.lean ====
/-
The attention over the memory: the array the kernel leaves is the reference's.
-/
module

public import proofs.«01_k».proof.Proof.Gen.MemAttnIdeal.Frame
public import proofs.«01_k».proof.Proof.Gen.MemAttnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MemAttnIdeal.Layer

open Cert.MemAttnIdeal Cert.MemAttnIdeal.Gen Cert.MemAttnRefIdeal.Read

variable (m : (ℓ : Loc nD τ sig) → Buf (Elt Ideal) ℓ)

/-- The block every window stands at, at every grid point. -/
theorem idx : ∀ t : Fin cfg0.N, win0_0.index t = ![t.val / 32, t.val % 32, 0]
    ∧ win0_1.index t = ![t.val / 32, 0, 0]
    ∧ win0_2.index t = ![t.val / 32, t.val % 32, 0] :=
  (by decide +kernel : ∀ t : Fin grid0.N, _)

/-- The number both programs start a maximum from is minus infinity. -/
theorem neg_inf : Ideal.ofBits FTy.f32 0xFF800000#32 = (⊥ : EReal) := by
  first | rfl | (simp [Ideal.ofBits]; done) | decide

/-- One row of an attention: the softmax of the scores `s`, taken against the values `v`. -/
def row {n : ℕ} (s v : Fin n → EReal) : EReal :=
  ∑ k, Ideal.div (Ideal.exp (s k - Finset.univ.fold max ⊥ s)) (∑ l, Ideal.exp (s l - Finset.univ.fold max ⊥ s)) * v k

/-- A row depends only on its scores and values. -/
theorem row_congr {n : ℕ} {s s' v v' : Fin n → EReal} (hs : ∀ k, s k = s' k) (hv : ∀ k, v k = v' k) : row s v = row s' v' := by
  rw [funext hs, funext hv]

/-- One head of one block in the kernel's own operations, from its scores and its values. -/
def headV (s : FVec Ideal S512x256 .f32) (v : FVec Ideal S256x128 .bf16) : FVec Ideal S1x512x128 .bf16 :=
  let p : FVec Ideal S512x256 .f32 := exp (subf s (broadcastTo S512x256 (shapeCast S512x1
    (multiReduction .maximumf [1] S512 s 0xFF800000#32 reduces_S512x256_S512 (.inl rfl) rfl) shapeCasts_S512_S512x1) broadcasts_S512x1_S512x256))
  let d : FVec Ideal S512x256 .f32 := divf p (broadcastTo S512x256 (shapeCast S512x1
    (multiReduction .add [1] S512 p 0x00000000#32 reduces_S512x256_S512 (.inl rfl) rfl) shapeCasts_S512_S512x1) broadcasts_S512x1_S512x256)
  shapeCast S1x512x128 (truncf .bf16 (matmul dot_S512x256_S256x128_S512x128_1_0_0_1_n_n none (truncf .bf16 d bitsLt_bf16_f32) v
    (constant S512x128 .f32 0x00000000#32)) bitsLt_bf16_f32) shapeCasts_S512x128_S1x512x128

/-- Each entry of a head is one row of an attention. -/
theorem headV_at (s : FVec Ideal S512x256 .f32) (v : FVec Ideal S256x128 .bf16) (x : S1x512x128.Idx) :
    headV s v x = row (fun k : Fin 256 => s (ix2 (x 1) k)) (fun k => v (ix2 k (x 2))) := by
  pointwise [headV, row, neg_inf]

/-- What the kernel leaves in a block: at row `y 1` and column `y 2`, the attention of head `y 2 / 128`. -/
theorem tile (x0 : FVec Ideal S1x512x512 .f32) (x1 : FVec Ideal S1x256x1024 .f32) (y : S1x512x512.Idx) :
    out0_2 (F := Ideal) x0 x1 y
      = row (fun k : Fin 256 => (∑ d : Fin 128,
            x0 (ix3 0 (y 1) ⟨(y 2 : ℕ) / 128 * 128 + d, by have h : (y 2 : ℕ) < 512 := (y 2).isLt; omega⟩)
              * x1 (ix3 0 k ⟨(y 2 : ℕ) / 128 * 128 + d, by have h : (y 2 : ℕ) < 512 := (y 2).isLt; omega⟩))
            * Ideal.ofBits FTy.f32 0x3DB504F3#32)
          (fun k => x1 (ix3 0 k ⟨512 + (y 2 : ℕ), by have h : (y 2 : ℕ) < 512 := (y 2).isLt; omega⟩)) := by
  canon_tiles x h
  all_goals
    refine (headV_at _ _ x).trans (row_congr (fun k => ?_) (fun k => ?_))
    · pointwise [k0_pay2, k0_pay3, k0_pay11, k0_pay12]
      blk_point []
    · pointwise [k0_pay2, k0_pay3, k0_pay11, k0_pay12]
      blk_ext

/-- The reference's scores, read at an index. -/
theorem ref_score (q : FVec Ideal Cert.MemAttnRefIdeal.S3x16384x512 .f32) (kv : FVec Ideal Cert.MemAttnRefIdeal.S3x256x1024 .f32)
    (b : Fin 3) (h : Fin 4) (r : Fin 16384) (k : Fin 256) :
    val_main_v7 (F := Ideal) q kv (ix4 b h r k)
      = (∑ d : Fin 128, q (ix3 b r ⟨(h : ℕ) * 128 + d, by omega⟩) * kv (ix3 b k ⟨(h : ℕ) * 128 + d, by omega⟩))
          * Ideal.ofBits FTy.f32 0x3DB504F3#32 := by
  rw [val_main_v7_apply, val_main_v5_apply, val_main_v6_apply, val_main_cst_apply]
  refine congrArg₂ (· * ·) (Finset.sum_congr rfl fun d _ => ?_) rfl
  rw [val_main_v4_apply, val_main_v1_apply, val_main_v0_apply]
  refine congrArg₂ (· * ·) (congrArg q (funext fun a => Fin.ext ?_)) (congrArg kv (funext fun a => Fin.ext ?_))
  · have hr := r.isLt
    fin_cases a <;> dsimp <;> omega
  · have hk := k.isLt
    fin_cases a <;> dsimp <;> omega

/-- The reference's maximum over a row of scores. -/
theorem ref_max (q : FVec Ideal Cert.MemAttnRefIdeal.S3x16384x512 .f32) (kv : FVec Ideal Cert.MemAttnRefIdeal.S3x256x1024 .f32)
    (b : Fin 3) (h : Fin 4) (r : Fin 16384) :
    val_main_v10 (F := Ideal) q kv (ix3 b h r)
      = Finset.univ.fold max ⊥ (fun k : Fin 256 => val_main_v7 (F := Ideal) q kv (ix4 b h r k)) := by
  rw [val_main_v10_apply, val_main_v9_apply, val_main_cst_1_apply]
  unfold val_main_v8
  generalize val_main_v7 (F := Ideal) q kv = y
  rw [Host.reduce_eq_fold_single _ _ _ Cert.MemAttnRefIdeal.Gen.reducesTo_S3x4x16384x256_S3x4x16384_d3 (by decide) Cert.MemAttnRefIdeal.Gen.h_S_, val_main_cst_0_apply]
  change max (Ideal.ofBits FTy.f32 0xFF800000#32) (Finset.fold max (Ideal.ofBits FTy.f32 0xFF800000#32) _ _) = _
  rw [neg_inf, max_eq_right bot_le]
  refine congrArg (fun f => Finset.univ.fold max ⊥ f) (funext fun k => ?_)
  exact congrArg y (funext fun a => Fin.ext (by match a with | ⟨0, _⟩ => rfl | ⟨1, _⟩ => rfl | ⟨2, _⟩ => rfl | ⟨3, _⟩ => rfl))

/-- The reference's exponentials of the scores, less the row's maximum. -/
theorem ref_exp (q : FVec Ideal Cert.MemAttnRefIdeal.S3x16384x512 .f32) (kv : FVec Ideal Cert.MemAttnRefIdeal.S3x256x1024 .f32)
    (b : Fin 3) (h : Fin 4) (r : Fin 16384) (k : Fin 256) :
    val_main_v14 (F := Ideal) q kv (ix4 b h r k)
      = Ideal.exp (val_main_v7 (F := Ideal) q kv (ix4 b h r k)
          - Finset.univ.fold max ⊥ (fun l : Fin 256 => val_main_v7 (F := Ideal) q kv (ix4 b h r l))) := by
  rw [← ref_max]
  pointwise [val_main_v11, val_main_v12, val_main_v13, val_main_v14]

/-- The reference's weights. -/
theorem ref_weight (q : FVec Ideal Cert.MemAttnRefIdeal.S3x16384x512 .f32) (kv : FVec Ideal Cert.MemAttnRefIdeal.S3x256x1024 .f32)
    (b : Fin 3) (h : Fin 4) (r : Fin 16384) (k : Fin 256) :
    val_main_v18 (F := Ideal) q kv (ix4 b h r k)
      = Ideal.div (Ideal.exp (val_main_v7 (F := Ideal) q kv (ix4 b h r k)
            - Finset.univ.fold max ⊥ (fun l : Fin 256 => val_main_v7 (F := Ideal) q kv (ix4 b h r l))))
          (∑ l : Fin 256, Ideal.exp (val_main_v7 (F := Ideal) q kv (ix4 b h r l)
            - Finset.univ.fold max ⊥ (fun l : Fin 256 => val_main_v7 (F := Ideal) q kv (ix4 b h r l)))) := by
  have h0 : val_main_v18 (F := Ideal) q kv (ix4 b h r k)
      = Ideal.div (val_main_v14 (F := Ideal) q kv (ix4 b h r k)) (∑ l : Fin 256, val_main_v14 (F := Ideal) q kv (ix4 b h r l)) := by
    pointwise [val_main_cst_2, val_main_v15, val_main_v16, val_main_v17, val_main_v18]
  rw [h0, ref_exp]
  exact congrArg _ (Finset.sum_congr rfl fun l _ => ref_exp q kv b h r l)

/-- The reference's result, read at an index, is one row of an attention. -/
theorem ref_at (q : FVec Ideal Cert.MemAttnRefIdeal.S3x16384x512 .f32) (kv : FVec Ideal Cert.MemAttnRefIdeal.S3x256x1024 .f32)
    (b : Fin 3) (r : Fin 16384) (e : Fin 512) :
    val_main_v22 (F := Ideal) q kv (ix3 b r e)
      = row (fun k : Fin 256 => val_main_v7 (F := Ideal) q kv (ix4 b ⟨(e : ℕ) / 128, by omega⟩ r k))
          (fun k => kv (ix3 b k ⟨512 + (e : ℕ), by omega⟩)) := by
  unfold row
  rw [val_main_v22_apply]
  refine (val_main_v21_apply (F := Ideal) q kv (ix3 b r e)).trans ?_
  rw [val_main_v20_apply, val_main_v19_apply]
  refine Finset.sum_congr rfl fun k _ => ?_
  refine (mul_comm _ _).trans ?_
  rw [val_main_v3_apply, val_main_v2_apply]
  refine congrArg₂ (· * ·) ((congrArg (val_main_v18 (F := Ideal) q kv) (a₂ := ix4 b ⟨(e : ℕ) / 128, by omega⟩ r k)
    (funext fun a => Fin.ext ?_)).trans (ref_weight q kv _ _ _ _)) (congrArg kv (funext fun a => Fin.ext ?_))
  · have hr := r.isLt
    fin_cases a <;> dsimp <;> omega
  · have hk := k.isLt
    fin_cases a <;> dsimp <;> omega

/-- The array the kernel leaves is the reference's result. -/
theorem final (c : Dev nD) : (dats m 0 c).arrAt 2 (cfgs 0).N
    = val_main_v22 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  refine (tile _ _ y).trans ?_
  refine Eq.trans ?_ ((congrArg _ (eq_ix3 _)).trans (ref_at _ _ _ _ _)).symm
  refine row_congr (fun k => ?_) (fun k => ?_)
  · refine Eq.trans ?_ (ref_score _ _ _ _ _ _).symm
    blk_point [iblk, V, idx t]
  · blk_point [iblk, V, idx t]

end Cert.MemAttnIdeal.Layer

end
-- ==== Proof.Conv.lean ====
/-
The short depthwise convolution: the array the kernel leaves is the reference's.
-/
module

public import proofs.«01_k».proof.Proof.Gen.ConvIdeal.Frame
public import proofs.«01_k».proof.Proof.Gen.ConvRefIdeal.Read
public import Idealize.ShloMosaic.Lib.Pipeline.ValueKit

@[expose] public section

set_option maxRecDepth 200000

noncomputable section

open Idealize.ShloMosaic Idealize.ShloMosaic.TcCoe Idealize.SL.Sem
open Idealize.ShloMosaic.Pipeline (Dat)

namespace Cert.ConvIdeal.Layer

open Cert.ConvIdeal Cert.ConvIdeal.Gen Cert.ConvRefIdeal.Read

variable (m : (ℓ : Loc nD τ sig) → Buf (Elt Ideal) ℓ)

/-- The block every window stands at, at every grid point. -/
theorem idx : ∀ t : Fin cfg0.N, win0_0.index t = ![t.val / 12, 0, t.val % 12]
    ∧ win0_1.index t = ![0, t.val % 12]
    ∧ win0_2.index t = ![0, t.val % 12]
    ∧ win0_3.index t = ![t.val / 12, 0, t.val % 12] :=
  (by decide +kernel : ∀ t : Fin grid0.N, _)

/-- A select on the comparison of a row number with a constant, both below the word's range, is a case distinction. -/
theorem select_row (n k : ℕ) (hn : n < 16384) (hk : k < 16384) (a b : EReal) :
    Scalar.select (IntOp.cmpi CmpIPredicate.eq (BitVec.ofNat 32 n) (BitVec.ofNat 32 k)) a b = if n = k then a else b := by
  have e : (BitVec.ofNat 32 n = BitVec.ofNat 32 k) ↔ n = k := by
    constructor
    · intro h
      have := congrArg BitVec.toNat h
      simp only [BitVec.toNat_ofNat] at this
      omega
    · rintro rfl; rfl
  by_cases h : n = k
  · subst h; simp [Scalar.select, IntOp.cmpi]
  · rw [if_neg h, Scalar.select, if_neg]
    simp only [IntOp.cmpi]
    rw [beq_eq_false_iff_ne.mpr fun hh => h (e.mp hh)]
    decide

/-- The integer zero as a float. -/
theorem zero_float : (FloatOps.sitofp (F := Ideal) FTy.f32 (0#32) : EReal) = 0 := by
  show ((((0#32 : BitVec 32).toInt : ℝ)) : EReal) = 0
  norm_num

set_option maxHeartbeats 1600000 in
/-- The array the kernel leaves is the reference's. -/
theorem final (c : Dev nD) : (dats m 0 c).arrAt 3 (cfgs 0).N
    = val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [
    k0_pay1, val_main_c, val_main_call0_v0, val_main_v0, val_main_v1, val_main_v2, val_main_v3, val_main_v4,
    val_main_v5, val_main_v6, val_main_v7, val_main_v8, val_main_v9, val_main_v10, val_main_v11, val_main_v12,
    val_main_v13, val_main_v14, val_main_v15, val_main_v16, val_main_v17, val_main_v18, val_main_v19,
    val_main_v20, val_main_v21, val_main_v22, val_main_v23]
  have h1 : (y 1 : ℕ) < 16384 := (y 1).isLt
  simp only [select_row _ 0 h1 (by norm_num), select_row _ 16383 h1 (by norm_num), zero_float]
  blk_simp [idx t]
  split_ifs <;> first
    | omega
    | (simp only [zero_mul]; blk_point [iblk, V, idx t])
    | blk_point [iblk, V, idx t]

end Cert.ConvIdeal.Layer

end
-- ==== Proof.FiltHost.lean ====
/-
The filter generator's host code: what the arrays it hands the kernel hold, in the arguments and in the reference's terms.
-/
module

public import proofs.«01_k».proof.Proof.Gen.FiltIdeal.Frame
public import proofs.«01_k».proof.Proof.Gen.FiltRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.FiltIdeal.Layer

open Cert.FiltIdeal Cert.FiltIdeal.Gen Cert.FiltRefIdeal.Read

variable (m : (ℓ : Loc nD τ sig) → Buf (Elt Ideal) ℓ)

set_option maxHeartbeats 1600000 in
/-- The frequency bands, filled up with zeros to a whole vector of lanes. -/
theorem bands_ops (c : Dev nD) :
    (show FVec Ideal S1x128 .f32 from V m c main_v2)
      = shapeCast S1x128 (pad S128 ![0] ![112] ![0] (val_main_v7 (F := Ideal))
          (sitofp .f32 (constantI S_ 32 0#32) : FVec Ideal S_ .f32) pads_S16_S128_01120 h_S_) shapeCasts_S128_S1x128 := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  rfl

set_option maxHeartbeats 1600000 in
/-- The decay rates, once per order of the filter. -/
theorem decay_ops (c : Dev nD) :
    (show FVec Ideal S1x1024 .f32 from V m c main_v26)
      = shapeCast S1x1024 (shapeCast S1024 (broadcastInDim S2x512 ![0, 1] bcast_S1x512_S2x512_0_1
          (shapeCast S1x512 (val_main_v63 (F := Ideal)) shapeCasts_S512_S1x512)) shapeCasts_S2x512_S1024) shapeCasts_S1024_S1x1024 := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  rfl

set_option maxHeartbeats 1600000 in
/-- The first layer's weights of the cosines, filled up with zero rows. -/
theorem wcos_ops (c : Dev nD) :
    (show FVec Ideal S128x64 .bf16 from V m c main_v7)
      = pad S128x64 ![0, 0] ![112, 0] ![0, 0] (extractStridedSlice S16x64 ![1, 0]
          (truncf .bf16 (m ((c : Thread nD τ).loc main_arg0)) bitsLt_bf16_f32 : FVec Ideal S33x64 .bf16) slices_S33x64_S16x64_1_0)
          (sitofp .bf16 (constantI S_ 32 0#32) : FVec Ideal S_ .bf16) pads_S16x64_S128x64_01120_000 h_S_ := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  rfl

set_option maxHeartbeats 1600000 in
/-- The first layer's weights of the sines, filled up with zero rows. -/
theorem wsin_ops (c : Dev nD) :
    (show FVec Ideal S128x64 .bf16 from V m c main_v9)
      = pad S128x64 ![0, 0] ![112, 0] ![0, 0] (extractStridedSlice S16x64 ![17, 0]
          (truncf .bf16 (m ((c : Thread nD τ).loc main_arg0)) bitsLt_bf16_f32 : FVec Ideal S33x64 .bf16) slices_S33x64_S16x64_17_0)
          (sitofp .bf16 (constantI S_ 32 0#32) : FVec Ideal S_ .bf16) pads_S16x64_S128x64_01120_000 h_S_ := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  rfl

/-- The number a padding is made of is zero. -/
theorem pad_zero (φ : FTy) : ((sitofp φ (constantI S_ 32 0#32) : FVec Ideal S_ φ) (Shape.Idx.first h_S_) : EReal) = 0 := by
  show (((0#32 : BitVec 32).toInt : ℝ) : EReal) = 0
  simp

/-- The frequency bands in the lanes in use. -/
theorem bands (c : Dev nD) (k : Fin 128) (hk : (k : ℕ) < 16) :
    (show FVec Ideal S1x128 .f32 from V m c main_v2) (ix2 0 k) = val_main_v7 (F := Ideal) (ix1 ⟨k, hk⟩) := by
  rw [bands_ops]
  generalize val_main_v7 (F := Ideal) = x
  refine (shapeCast_apply _ _ (ix2 0 k) (ix1 k) ?_).trans ?_
  · rw [Shape.rowMajor_val_one, Shape.rowMajor_val_two]
    show (k : ℕ) = 0 * 128 + k
    omega
  · refine pad_apply_of_inside _ _ _ _ _ _ _ _ (ix1 ⟨k, hk⟩) (fun a => ?_)
    fin_cases a
    show (k : ℕ) = 0 + k * (0 + 1)
    omega

/-- The weights of the cosines. -/
theorem wcos (c : Dev nD) (k : Fin 128) (j : Fin 64) :
    (show FVec Ideal S128x64 .bf16 from V m c main_v7) (ix2 k j)
      = if h : (k : ℕ) < 16 then (show FVec Ideal S33x64 .f32 from m ((c : Thread nD τ).loc main_arg0)) (ix2 ⟨1 + k, by omega⟩ j) else (0 : EReal) := by
  rw [wcos_ops]
  generalize m ((c : Thread nD τ).loc main_arg0) = x
  by_cases h : (k : ℕ) < 16
  · rw [dif_pos h]
    refine (pad_apply_of_inside _ _ _ _ _ _ _ _ (ix2 ⟨k, h⟩ j) (fun a => ?_)).trans ?_
    · fin_cases a
      · show (k : ℕ) = 0 + k * (0 + 1)
        omega
      · show (j : ℕ) = 0 + j * (0 + 1)
        omega
    · refine (extractStridedSlice_apply _ _ _ _ (ix2 ⟨1 + k, by omega⟩ j) (fun a => ?_)).trans rfl
      fin_cases a
      · rfl
      · show (j : ℕ) = 0 + j
        omega
  · rw [dif_neg h]
    refine (pad_apply_of_not_inside _ _ _ _ _ _ _ _ 0 (fun hin => h ?_)).trans (pad_zero _)
    have h2 : ((k : ℕ) - 0) / (0 + 1) < 16 := hin.2.2
    omega

/-- The weights of the sines. -/
theorem wsin (c : Dev nD) (k : Fin 128) (j : Fin 64) :
    (show FVec Ideal S128x64 .bf16 from V m c main_v9) (ix2 k j)
      = if h : (k : ℕ) < 16 then (show FVec Ideal S33x64 .f32 from m ((c : Thread nD τ).loc main_arg0)) (ix2 ⟨17 + k, by omega⟩ j) else (0 : EReal) := by
  rw [wsin_ops]
  generalize m ((c : Thread nD τ).loc main_arg0) = x
  by_cases h : (k : ℕ) < 16
  · rw [dif_pos h]
    refine (pad_apply_of_inside _ _ _ _ _ _ _ _ (ix2 ⟨k, h⟩ j) (fun a => ?_)).trans ?_
    · fin_cases a
      · show (k : ℕ) = 0 + k * (0 + 1)
        omega
      · show (j : ℕ) = 0 + j * (0 + 1)
        omega
    · refine (extractStridedSlice_apply _ _ _ _ (ix2 ⟨17 + k, by omega⟩ j) (fun a => ?_)).trans rfl
      fin_cases a
      · rfl
      · show (j : ℕ) = 0 + j
        omega
  · rw [dif_neg h]
    refine (pad_apply_of_not_inside _ _ _ _ _ _ _ _ 0 (fun hin => h ?_)).trans (pad_zero _)
    have h2 : ((k : ℕ) - 0) / (0 + 1) < 16 := hin.2.2
    omega

set_option maxHeartbeats 1600000 in
/-- The weights of the time. -/
theorem wtime (c : Dev nD) (j : Fin 64) :
    (show FVec Ideal S1x64 .f32 from V m c main_v5) (ix2 0 j)
      = (show FVec Ideal S33x64 .f32 from m ((c : Thread nD τ).loc main_arg0)) (ix2 0 j) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  pointwise

set_option maxHeartbeats 1600000 in
/-- The middle layers' weights. -/
theorem wmid (c : Dev nD) (l : Fin 2) (k j : Fin 64) :
    (show FVec Ideal S2x64x64 .bf16 from V m c main_v27) (ix3 l k j)
      = (show FVec Ideal S2x64x64 .f32 from m ((c : Thread nD τ).loc main_arg1)) (ix3 l k j) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  pointwise

set_option maxHeartbeats 1600000 in
/-- The last layer's weights, taken apart by direction. -/
theorem wdir (c : Dev nD) (d : Fin 2) (k : Fin 64) (e : Fin 1024) :
    (show FVec Ideal S2x64x1024 .bf16 from V m c main_v20) (ix3 d k e)
      = (show FVec Ideal S64x2048 .f32 from m ((c : Thread nD τ).loc main_arg4))
          (ix2 k ⟨(e : ℕ) / 512 * 1024 + (d : ℕ) * 512 + (e : ℕ) % 512, by omega⟩) := by
  unfold V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  pointwise
  split
  · refine congrArg (m ((c : Thread nD τ).loc main_arg4)) (congrArg (ix2 k) (Fin.ext ?_))
    dsimp
    omega
  · refine congrArg (m ((c : Thread nD τ).loc main_arg4)) (congrArg (ix2 k) (Fin.ext ?_))
    dsimp
    omega

/-- The decay rates. -/
theorem decay (c : Dev nD) (e : Fin 1024) :
    (show FVec Ideal S1x1024 .f32 from V m c main_v26) (ix2 0 e) = val_main_v63 (F := Ideal) (ix1 ⟨(e : ℕ) % 512, by omega⟩) := by
  rw [decay_ops]
  generalize val_main_v63 (F := Ideal) = x
  pointwise

end Cert.FiltIdeal.Layer

end
-- ==== Proof.FiltRow.lean ====
/-
The filter generator, one row at a time: the kernel's three layers of sines against the reference's.
-/
module

public import proofs.«01_k».proof.Proof.Gen.FiltIdeal.Frame
public import proofs.«01_k».proof.Proof.Gen.FiltRefIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.FiltIdeal.Layer

open Cert.FiltIdeal Cert.FiltIdeal.Gen Cert.FiltRefIdeal.Read

/-- A selection by a bit that stands for a proposition. -/
theorem select_bit {b : BitVec 1} {P : Prop} [Decidable P] (h : b = 1#1 ↔ P) {α : Type} (u z : α) :
    Scalar.select b u z = if P then u else z := by
  unfold Scalar.select
  by_cases hp : P
  · rw [if_pos hp, h.mpr hp]; rfl
  · rw [if_neg hp]; exact if_neg fun hb => hp (h.mp hb)

/-- A sum over a vector of lanes whose lanes behind the sixteenth hold zero. -/
theorem sum_head (f : Fin 128 → EReal) (g : Fin 16 → EReal) (h1 : ∀ k : Fin 16, f ⟨k, by omega⟩ = g k)
    (h0 : ∀ k : Fin 128, ¬(k : ℕ) < 16 → f k = 0) : ∑ k, f k = ∑ k, g k := by
  rw [show (∑ k, f k) = ∑ k : Fin (16 + 112), f k from rfl, Fin.sum_univ_add,
    Finset.sum_eq_zero (f := fun i : Fin 112 => f (Fin.natAdd 16 i)) fun i _ => h0 (Fin.natAdd 16 i) (by show ¬16 + (i : ℕ) < 16; omega), add_zero]
  exact Finset.sum_congr rfl fun k _ => h1 k

/-- A sum over the embedding's 33 numbers: sixteen cosines, sixteen sines, the time. -/
theorem sum_split (f : Fin 33 → EReal) :
    ∑ k, f k = ∑ k : Fin 16, f ⟨1 + k, by omega⟩ + ∑ k : Fin 16, f ⟨17 + k, by omega⟩ + f 0 := by
  rw [show (∑ k, f k) = ∑ k : Fin (1 + 16 + 16), f k from rfl, Fin.sum_univ_add, Fin.sum_univ_add, Fin.sum_univ_one]
  exact (add_assoc (f 0) _ _).trans (add_comm _ _)

/-- The lag a row stands for: its own number, or counted back from the end in the second half. -/
def lag (n : ℕ) : ℕ := if n < 16384 then n else 32768 - n

/-- The kernel's row number. -/
theorem row_at (i : grid0.Coords) (r : Fin 512) :
    k0_pay6 i (ix2 r 0) = BitVec.ofNat 32 ((i 0 : ℕ) * 512 + r) := by
  have hi : (i 0 : ℕ) < 64 := (i 0).isLt
  have hr := r.isLt
  pointwise [k0_pay6]
  show BitVec.ofNat 32 (i 0 : ℕ) * BitVec.ofNat 32 512 + BitVec.ofNat 32 r = _
  rw [← BitVec.ofNat_mul, ← BitVec.ofNat_add]

/-- The kernel's lag of a row, as an integer. -/
theorem lag_at (i : grid0.Coords) (r : Fin 512) :
    k0_pay7 i (ix2 r 0) = BitVec.ofNat 32 (lag ((i 0 : ℕ) * 512 + r)) := by
  have hi : (i 0 : ℕ) < 64 := (i 0).isLt
  have hr := r.isLt
  have h := row_at i r
  pointwise [k0_pay7, lag]
  rw [h]
  refine (select_bit (WordCmp.cmpi_slt_ofNat_eq_one_iff (by omega) (by omega)) _ _).trans ?_
  split
  · rfl
  · show BitVec.ofNat 32 32768 - BitVec.ofNat 32 ((i 0 : ℕ) * 512 + r) = _
    apply BitVec.eq_of_toNat_eq
    rw [BitVec.toNat_sub, BitVec.toNat_ofNat, BitVec.toNat_ofNat, BitVec.toNat_ofNat]
    omega

/-- The kernel's time at a row. -/
theorem time_at (i : grid0.Coords) (r : Fin 512) (p : Fin 16384) (hp : (p : ℕ) = lag ((i 0 : ℕ) * 512 + r)) :
    k0_pay9 (F := Ideal) i (ix2 r 0) = val_main_v2 (F := Ideal) (ix1 p) := by
  have h := lag_at i r
  rw [← hp] at h
  pointwise [k0_pay9, k0_pay8, val_main_v2, val_main_v0, val_main_v1, val_main_cst]
  rw [h]

/-- The first layer before its sine. -/
theorem first_at (i : grid0.Coords) (r : Fin 512) (p : Fin 16384) (hp : (p : ℕ) = lag ((i 0 : ℕ) * 512 + r)) (j : Fin 64)
    (x0 : FVec Ideal Cert.FiltRefIdeal.S33x64 .f32)
    (B : Vec Ideal S1x128 .f32) (C S : Vec Ideal S128x64 .bf16) (W : Vec Ideal S1x64 .f32)
    (hB : ∀ (k : Fin 128) (hk : (k : ℕ) < 16), B (ix2 0 k) = val_main_v7 (F := Ideal) (ix1 ⟨k, hk⟩))
    (hC : ∀ (k : Fin 128) (j : Fin 64), C (ix2 k j) = if h : (k : ℕ) < 16 then x0 (ix2 ⟨1 + k, by omega⟩ j) else (0 : EReal))
    (hS : ∀ (k : Fin 128) (j : Fin 64), S (ix2 k j) = if h : (k : ℕ) < 16 then x0 (ix2 ⟨17 + k, by omega⟩ j) else (0 : EReal))
    (hW : ∀ j : Fin 64, W (ix2 0 j) = x0 (ix2 0 j)) :
    k0_pay10 (F := Ideal) i B C S W (ix2 r j) = val_main_v20 (F := Ideal) x0 (ix2 p j) := by
  have h := lag_at i r
  rw [← hp] at h
  have h9 := time_at i r p hp
  pointwise [k0_pay10, k0_pay8, val_main_v20, val_main_v17, val_main_v16, val_main_v15, val_main_v14, val_main_v13, val_main_v12, val_main_v11, val_main_v10, val_main_v9,
    val_main_v8, val_main_v6, val_main_v5, val_main_v4, val_main_v3, val_main_v0, val_main_cst_0, val_main_cst_1]
  rw [h, h9, hW, sum_split]
  refine congrArg₂ (fun u v : EReal => u + v) (congrArg₂ (fun u v : EReal => u + v) (sum_head _ _ (fun k => ?_) fun k hk => ?_)
    (sum_head _ _ (fun k => ?_) fun k hk => ?_)) ?_
  · have e : 1 + (k : ℕ) - 1 = k := by omega
    dsimp only
    rw [hB _ k.isLt, hC, dif_pos k.isLt, dif_neg (by omega : ¬1 + (k : ℕ) < 1), dif_pos (by omega : 1 + (k : ℕ) - 1 < 16)]
    simp only [e]
  · rw [hC, dif_neg hk, mul_zero]
  · have e : 17 + (k : ℕ) - 1 - 16 = k := by omega
    dsimp only
    rw [hB _ k.isLt, hS, dif_pos k.isLt, dif_neg (by omega : ¬17 + (k : ℕ) < 1), dif_neg (by omega : ¬17 + (k : ℕ) - 1 < 16), zero_sub]
    simp only [e]
  · rw [hS, dif_neg hk, mul_zero]
  · rw [dif_pos (by decide)]

/-- The three layers of sines at one row. -/
theorem hidden_at (A : FVec Ideal S512x64 .f32) (r : Fin 512) (p : Fin 16384) (j : Fin 64)
    (x0 : FVec Ideal Cert.FiltRefIdeal.S33x64 .f32) (x1 : FVec Ideal Cert.FiltRefIdeal.S2x64x64 .f32) (x2 x3 : FVec Ideal Cert.FiltRefIdeal.S3x64 .f32)
    (F1 B1 F2 B2 F3 B3 : Vec Ideal S1x64 .f32) (W1 W2 : Vec Ideal S1x64x64 .bf16)
    (hA : ∀ j : Fin 64, A (ix2 r j) = val_main_v20 (F := Ideal) x0 (ix2 p j))
    (hF1 : ∀ j : Fin 64, F1 (ix2 0 j) = x3 (ix2 0 j)) (hB1 : ∀ j : Fin 64, B1 (ix2 0 j) = x2 (ix2 0 j))
    (hF2 : ∀ j : Fin 64, F2 (ix2 0 j) = x3 (ix2 1 j)) (hB2 : ∀ j : Fin 64, B2 (ix2 0 j) = x2 (ix2 1 j))
    (hF3 : ∀ j : Fin 64, F3 (ix2 0 j) = x3 (ix2 2 j)) (hB3 : ∀ j : Fin 64, B3 (ix2 0 j) = x2 (ix2 2 j))
    (hW1 : ∀ k j : Fin 64, W1 (ix3 0 k j) = x1 (ix3 0 k j)) (hW2 : ∀ k j : Fin 64, W2 (ix3 0 k j) = x1 (ix3 1 k j)) :
    k0_pay11 (F := Ideal) A F1 B1 W1 F2 B2 W2 F3 B3 (ix2 r j) = val_main_v57 (F := Ideal) x0 x1 x2 x3 (ix2 p j) := by
  pointwise [k0_pay11, val_main_v57, val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v27, val_main_v26,
    val_main_v25, val_main_v24, val_main_v23, val_main_v22, val_main_v21, val_main_v19, val_main_v18, hA, hF1, hB1, hF2, hB2, hF3, hB3, hW1, hW2]

/-- One entry of the filter before the two directions are laid out: the last layer's product, decayed. -/
theorem decayed_at (H : FVec Ideal S512x64 .bf16) (T : FVec Ideal S512x1 .f32) (D : Vec Ideal S1x1024 .f32) (W : Vec Ideal S1x64x1024 .bf16)
    (r : Fin 512) (p : Fin 16384) (d : Fin 2) (e : Fin 1024)
    (x0 : FVec Ideal Cert.FiltRefIdeal.S33x64 .f32) (x1 : FVec Ideal Cert.FiltRefIdeal.S2x64x64 .f32) (x2 x3 : FVec Ideal Cert.FiltRefIdeal.S3x64 .f32)
    (x4 : FVec Ideal Cert.FiltRefIdeal.S64x2048 .f32)
    (hH : ∀ j : Fin 64, H (ix2 r j) = val_main_v57 (F := Ideal) x0 x1 x2 x3 (ix2 p j))
    (hT : T (ix2 r 0) = val_main_v2 (F := Ideal) (ix1 p))
    (hD : D (ix2 0 e) = val_main_v63 (F := Ideal) (ix1 ⟨(e : ℕ) % 512, by omega⟩))
    (hW : ∀ k : Fin 64, W (ix3 0 k e) = x4 (ix2 k ⟨(e : ℕ) / 512 * 1024 + (d : ℕ) * 512 + (e : ℕ) % 512, by omega⟩)) :
    (∑ k : Fin 64, H (ix2 r k) * W (ix3 0 k e)) * Ideal.exp (k0_pay12 (F := Ideal) T D (ix2 r e))
      = val_main_v70 (F := Ideal) x0 x1 x2 x3 x4 (ix4 p ⟨(e : ℕ) / 512, by omega⟩ d ⟨(e : ℕ) % 512, by omega⟩) := by
  pointwise [k0_pay12, val_main_v70, val_main_v69, val_main_v68, val_main_v67, val_main_v66, val_main_v65, val_main_v64, val_main_v62, val_main_v61,
    val_main_v59, val_main_v58, hH, hT, hD, hW]
  rw [zero_sub]

/-- A block's entry on every step but the first: the filter's value, or zero where the lag is past the end. -/
theorem pay2_at (L : IVec S512x1 32) (H : FVec Ideal S512x64 .bf16) (E : FVec Ideal S512x1024 .f32) (W : Vec Ideal S1x64x1024 .bf16)
    (r : Fin 512) (e : Fin 1024) (n : ℕ) (hn : n ≤ 16384) (hL : L (ix2 r 0) = BitVec.ofNat 32 n) :
    k0_pay2 (F := Ideal) L H E W (ix2 r e)
      = if n < 16384 then (∑ k : Fin 64, H (ix2 r k) * W (ix3 0 k e)) * Ideal.exp (E (ix2 r e)) else (0 : EReal) := by
  pointwise [k0_pay2, k0_pay1, hL]
  exact select_bit (WordCmp.cmpi_slt_ofNat_eq_one_iff (by omega) (by omega)) _ _

/-- A block's entry on the first step: in its first row the other direction is added. -/
theorem pay3_at (R L : IVec S512x1 32) (H : FVec Ideal S512x64 .bf16) (E : FVec Ideal S512x1024 .f32) (W U : Vec Ideal S1x64x1024 .bf16)
    (r : Fin 512) (e : Fin 1024) (hR : R (ix2 r 0) = BitVec.ofNat 32 r) :
    k0_pay3 (F := Ideal) R L H E W U (ix2 r e)
      = if (r : ℕ) = 0 then k0_pay2 (F := Ideal) L H E W (ix2 r e) + (∑ k : Fin 64, H (ix2 r k) * U (ix3 0 k e)) * Ideal.exp (E (ix2 r e))
        else k0_pay2 (F := Ideal) L H E W (ix2 r e) := by
  generalize hP : k0_pay2 (F := Ideal) L H E W = P
  pointwise [k0_pay3, k0_pay1, hR, hP]
  exact select_bit (WordCmp.cmpi_eq_ofNat_eq_one_iff (by omega) (by omega)) _ _

/-- The row of the reference's filter at lags in the first half, behind the first. -/
theorem two_at (x0 : FVec Ideal Cert.FiltRefIdeal.S33x64 .f32) (x1 : FVec Ideal Cert.FiltRefIdeal.S2x64x64 .f32) (x2 x3 : FVec Ideal Cert.FiltRefIdeal.S3x64 .f32)
    (x4 : FVec Ideal Cert.FiltRefIdeal.S64x2048 .f32) (n : Fin 32768) (a : Fin 2) (e : Fin 512) :
    val_main_v83 (F := Ideal) x0 x1 x2 x3 x4 (ix3 n a e)
      = if h : lag n < 16384 then
          (if (n : ℕ) = 0 then val_main_v70 (F := Ideal) x0 x1 x2 x3 x4 (ix4 ⟨lag n, h⟩ a 0 e) + val_main_v70 (F := Ideal) x0 x1 x2 x3 x4 (ix4 ⟨lag n, h⟩ a 1 e)
            else val_main_v70 (F := Ideal) x0 x1 x2 x3 x4 (ix4 ⟨lag n, h⟩ a (if (n : ℕ) < 16384 then 0 else 1) e))
        else (0 : EReal) := by
  have h77 : ∀ (j : Fin 1), val_main_v77 (F := Ideal) x0 x1 x2 x3 x4 (ix3 j a e)
      = val_main_v70 (F := Ideal) x0 x1 x2 x3 x4 (ix4 0 a 0 e) + val_main_v70 (F := Ideal) x0 x1 x2 x3 x4 (ix4 0 a 1 e) := by
    intro j
    generalize hg : val_main_v70 (F := Ideal) x0 x1 x2 x3 x4 = g
    pointwise [val_main_v77, val_main_v76, val_main_v75, val_main_v74, val_main_v73, val_main_v72, val_main_v71, hg]
  have h78 : ∀ (j : Fin 16383), val_main_v78 (F := Ideal) x0 x1 x2 x3 x4 (ix3 j a e)
      = val_main_v70 (F := Ideal) x0 x1 x2 x3 x4 (ix4 ⟨1 + j, by omega⟩ a 0 e) := by
    intro j
    generalize hg : val_main_v70 (F := Ideal) x0 x1 x2 x3 x4 = g
    pointwise [val_main_v78, val_main_v72, val_main_v71, hg]
  have h80 : ∀ (j : Fin 1), val_main_v80 (F := Ideal) (ix3 j a e) = (0 : EReal) := by
    intro j
    pointwise [val_main_v80, val_main_cst_5]
  have h82 : ∀ (j : Fin 16383), val_main_v82 (F := Ideal) x0 x1 x2 x3 x4 (ix3 j a e)
      = val_main_v70 (F := Ideal) x0 x1 x2 x3 x4 (ix4 ⟨16383 - j, by omega⟩ a 1 e) := by
    intro j
    generalize hg : val_main_v70 (F := Ideal) x0 x1 x2 x3 x4 = g
    pointwise [val_main_v82, val_main_v81, val_main_v74, val_main_v73, hg]
    refine congrArg g (funext fun b => Fin.ext ?_)
    match b with
    | ⟨0, _⟩ => show 1 + (16383 - ((j : ℕ) + 1)) = 16383 - j; omega
    | ⟨1, _⟩ => rfl
    | ⟨2, _⟩ => rfl
    | ⟨3, _⟩ => rfl
  have hn := n.isLt
  unfold val_main_v83
  generalize val_main_v77 (F := Ideal) x0 x1 x2 x3 x4 = v77 at h77 ⊢
  generalize val_main_v78 (F := Ideal) x0 x1 x2 x3 x4 = v78 at h78 ⊢
  generalize val_main_v82 (F := Ideal) x0 x1 x2 x3 x4 = v82 at h82 ⊢
  generalize val_main_v80 (F := Ideal) = v80 at h80 ⊢
  generalize val_main_v70 (F := Ideal) x0 x1 x2 x3 x4 = g at h77 h78 h82 ⊢
  pointwise
  by_cases c0 : (n : ℕ) < 1
  · have z : (n : ℕ) = 0 := by omega
    have l : lag n = 0 := by unfold lag; rw [if_pos (by omega)]; exact z
    refine (dif_pos c0).trans ((h77 _).trans (Eq.symm ?_))
    refine (dif_pos (show lag n < 16384 by omega)).trans ((if_pos z).trans ?_)
    simp only [l]
    rfl
  refine (dif_neg c0).trans ?_
  by_cases c1 : (n : ℕ) - 1 < 16383
  · have l : lag n = 1 + ((n : ℕ) - 1) := by unfold lag; rw [if_pos (by omega)]; omega
    refine (dif_pos c1).trans ((h78 _).trans (Eq.symm ?_))
    refine (dif_pos (show lag n < 16384 by omega)).trans ((if_neg (show ¬(n : ℕ) = 0 by omega)).trans ?_)
    rw [if_pos (show (n : ℕ) < 16384 by omega)]
    simp only [l]
  refine (dif_neg c1).trans ?_
  by_cases c2 : (n : ℕ) - 1 - 16383 < 1
  · have l : lag n = 16384 := by unfold lag; rw [if_neg (by omega)]; omega
    exact (dif_pos c2).trans ((h80 _).trans (Eq.symm (dif_neg (show ¬lag n < 16384 by omega))))
  · have l : lag n = 16383 - ((n : ℕ) - 1 - 16383 - 1) := by unfold lag; rw [if_neg (by omega)]; omega
    refine (dif_neg c2).trans ((h82 _).trans (Eq.symm ?_))
    refine (dif_pos (show lag n < 16384 by omega)).trans ((if_neg (show ¬(n : ℕ) = 0 by omega)).trans ?_)
    rw [if_neg (show ¬(n : ℕ) < 16384 by omega)]
    simp only [l]

end Cert.FiltIdeal.Layer

end
-- ==== Proof.Filt.lean ====
/-
The filter generator: the two arrays the kernel leaves — the two-sided filter and the sum of its absolute values — are the
reference's.
-/
module

public import proofs.«01_k».proof.Proof.FiltHost
public import proofs.«01_k».proof.Proof.FiltRow

@[expose] public section

set_option maxRecDepth 16384

noncomputable section

open Idealize.ShloMosaic Idealize.ShloMosaic.TcCoe Idealize.SL.Sem
open Idealize.ShloMosaic.Pipeline (Dat)

namespace Cert.FiltIdeal.Layer

open Cert.FiltIdeal Cert.FiltIdeal.Gen Cert.FiltRefIdeal.Read

variable (m : (ℓ : Loc nD τ sig) → Buf (Elt Ideal) ℓ)

/-- The block every window stands at, at every grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0, 0]
    ∧ win0_5.index t = ![0, 0]
    ∧ win0_6.index t = ![0, 0]
    ∧ win0_7.index t = ![t.val / 32, 0, 0]
    ∧ win0_8.index t = ![1, 0, 0]
    ∧ win0_9.index t = ![0, 0]
    ∧ win0_10.index t = ![t.val, 0]
    ∧ win0_11.index t = ![0, 0] :=
  (by decide +kernel : ∀ t : Fin grid0.N, _)

/-- The grid's coordinate. -/
theorem coord : ∀ t : Fin cfg0.N, ((grid0.coords t 0 : Fin _) : ℕ) = t.val :=
  (by decide +kernel : ∀ t : Fin grid0.N, _)

/-- The bands a step holds. -/
theorem bands_blk (c : Dev nD) (t : Fin cfg0.N) (k : Fin 128) (hk : (k : ℕ) < 16) :
    (show FVec Ideal S1x128 .f32 from iblk m c 0 t) (ix2 0 k) = val_main_v7 (F := Ideal) (ix1 ⟨k, hk⟩) := by
  refine Eq.trans ?_ (bands m c k hk)
  blk_point [iblk, idx t]

/-- The weights of the time a step holds. -/
theorem wtime_blk (c : Dev nD) (t : Fin cfg0.N) (j : Fin 64) :
    (show FVec Ideal S1x64 .f32 from iblk m c 1 t) (ix2 0 j)
      = (show FVec Ideal S33x64 .f32 from m ((c : Thread nD τ).loc main_arg0)) (ix2 0 j) := by
  refine Eq.trans ?_ (wtime m c j)
  blk_point [iblk, idx t]

/-- The weights of the cosines a step holds. -/
theorem wcos_blk (c : Dev nD) (t : Fin cfg0.N) (k : Fin 128) (j : Fin 64) :
    (show FVec Ideal S128x64 .bf16 from iblk m c 2 t) (ix2 k j)
      = if h : (k : ℕ) < 16 then (show FVec Ideal S33x64 .f32 from m ((c : Thread nD τ).loc main_arg0)) (ix2 ⟨1 + k, by omega⟩ j) else (0 : EReal) := by
  refine Eq.trans ?_ (wcos m c k j)
  blk_point [iblk, idx t]

/-- The weights of the sines a step holds. -/
theorem wsin_blk (c : Dev nD) (t : Fin cfg0.N) (k : Fin 128) (j : Fin 64) :
    (show FVec Ideal S128x64 .bf16 from iblk m c 3 t) (ix2 k j)
      = if h : (k : ℕ) < 16 then (show FVec Ideal S33x64 .f32 from m ((c : Thread nD τ).loc main_arg0)) (ix2 ⟨17 + k, by omega⟩ j) else (0 : EReal) := by
  refine Eq.trans ?_ (wsin m c k j)
  blk_point [iblk, idx t]

/-- The middle layers' weights a step holds. -/
theorem wmid_blk (c : Dev nD) (t : Fin cfg0.N) (l : Fin 2) (k j : Fin 64) :
    (show FVec Ideal S2x64x64 .bf16 from iblk m c 4 t) (ix3 l k j)
      = (show FVec Ideal S2x64x64 .f32 from m ((c : Thread nD τ).loc main_arg1)) (ix3 l k j) := by
  refine Eq.trans ?_ (wmid m c l k j)
  blk_point [iblk, idx t]

/-- The biases a step holds. -/
theorem bias_blk (c : Dev nD) (t : Fin cfg0.N) (l : Fin 3) (j : Fin 64) :
    (show FVec Ideal S3x64 .f32 from iblk m c 5 t) (ix2 l j)
      = (show FVec Ideal S3x64 .f32 from m ((c : Thread nD τ).loc main_arg2)) (ix2 l j) := by
  refine Eq.trans ?_ (congrFun (V_main_arg2 m c) (ix2 l j))
  blk_point [iblk, idx t]

/-- The frequencies a step holds. -/
theorem freq_blk (c : Dev nD) (t : Fin cfg0.N) (l : Fin 3) (j : Fin 64) :
    (show FVec Ideal S3x64 .f32 from iblk m c 6 t) (ix2 l j)
      = (show FVec Ideal S3x64 .f32 from m ((c : Thread nD τ).loc main_arg3)) (ix2 l j) := by
  refine Eq.trans ?_ (congrFun (V_main_arg3 m c) (ix2 l j))
  blk_point [iblk, idx t]

/-- The last layer's weights a step holds: those of its half's direction. -/
theorem wdir_blk (c : Dev nD) (t : Fin cfg0.N) (k : Fin 64) (e : Fin 1024) :
    (show FVec Ideal S1x64x1024 .bf16 from iblk m c 7 t) (ix3 0 k e)
      = (show FVec Ideal S64x2048 .f32 from m ((c : Thread nD τ).loc main_arg4))
          (ix2 k ⟨(e : ℕ) / 512 * 1024 + (((if t.val < 32 then 0 else 1) : Fin 2) : ℕ) * 512 + (e : ℕ) % 512, by omega⟩) := by
  refine Eq.trans ?_ (wdir m c (if t.val < 32 then 0 else 1) k e)
  have ht : t.val < 64 := t.isLt
  blk_point [iblk, idx t]
  split_ifs <;> dsimp <;> omega

/-- The other direction's weights. -/
theorem wback_blk (c : Dev nD) (t : Fin cfg0.N) (k : Fin 64) (e : Fin 1024) :
    (show FVec Ideal S1x64x1024 .bf16 from iblk m c 8 t) (ix3 0 k e)
      = (show FVec Ideal S64x2048 .f32 from m ((c : Thread nD τ).loc main_arg4))
          (ix2 k ⟨(e : ℕ) / 512 * 1024 + ((1 : Fin 2) : ℕ) * 512 + (e : ℕ) % 512, by omega⟩) := by
  refine Eq.trans ?_ (wdir m c 1 k e)
  blk_point [iblk, idx t]

/-- The decay rates a step holds. -/
theorem decay_blk (c : Dev nD) (t : Fin cfg0.N) (e : Fin 1024) :
    (show FVec Ideal S1x1024 .f32 from iblk m c 9 t) (ix2 0 e) = val_main_v63 (F := Ideal) (ix1 ⟨(e : ℕ) % 512, by omega⟩) := by
  refine Eq.trans ?_ (decay m c e)
  blk_point [iblk, idx t]

/-- The hidden layer a step computes. -/
abbrev hid (c : Dev nD) (t : Fin cfg0.N) : FVec Ideal S512x64 .bf16 :=
  k0_pay11 (k0_pay10 (grid0.coords t) (iblk m c 0 t) (iblk m c 2 t) (iblk m c 3 t) (iblk m c 1 t))
    (View.ld (iblk m c 6 t) (Rect.unit ![0, 0] ![1, 64] inb_S3x64_S1x64_0_0))
    (View.ld (iblk m c 5 t) (Rect.unit ![0, 0] ![1, 64] inb_S3x64_S1x64_0_0))
    (View.ld (iblk m c 4 t) (Rect.unit ![0, 0, 0] ![1, 64, 64] inb_S2x64x64_S1x64x64_0_0_0))
    (View.ld (iblk m c 6 t) (Rect.unit ![1, 0] ![1, 64] inb_S3x64_S1x64_1_0))
    (View.ld (iblk m c 5 t) (Rect.unit ![1, 0] ![1, 64] inb_S3x64_S1x64_1_0))
    (View.ld (iblk m c 4 t) (Rect.unit ![1, 0, 0] ![1, 64, 64] inb_S2x64x64_S1x64x64_1_0_0))
    (View.ld (iblk m c 6 t) (Rect.unit ![2, 0] ![1, 64] inb_S3x64_S1x64_2_0))
    (View.ld (iblk m c 5 t) (Rect.unit ![2, 0] ![1, 64] inb_S3x64_S1x64_2_0))

/-- The exponents of the decay a step computes. -/
abbrev dec (c : Dev nD) (t : Fin cfg0.N) : FVec Ideal S512x1024 .f32 :=
  k0_pay12 (k0_pay9 (grid0.coords t)) (iblk m c 9 t)

/-- The reference's decayed filter, before the two directions are laid out. -/
abbrev flt (c : Dev nD) : FVec Ideal Cert.FiltRefIdeal.S16384x2x2x512 .f32 :=
  val_main_v70 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's two-sided filter. -/
abbrev two (c : Dev nD) : FVec Ideal Cert.FiltRefIdeal.S32768x2x512 .f32 :=
  val_main_v83 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A row of the hidden layer is the reference's at the row's lag. -/
theorem hid_at (c : Dev nD) (t : Fin cfg0.N) (r : Fin 512) (p : Fin 16384) (hp : (p : ℕ) = lag (t.val * 512 + r)) (j : Fin 64) :
    hid m c t (ix2 r j) = val_main_v57 (F := Ideal) (m ((c : Thread nD τ).loc main_arg0)) (m ((c : Thread nD τ).loc main_arg1))
      (m ((c : Thread nD τ).loc main_arg2)) (m ((c : Thread nD τ).loc main_arg3)) (ix2 p j) := by
  refine hidden_at _ r p j _ _ _ _ _ _ _ _ _ _ _ _
    (fun j => first_at (grid0.coords t) r p (by rw [coord]; exact hp) j _ _ _ _ _
      (bands_blk m c t) (wcos_blk m c t) (wsin_blk m c t) (wtime_blk m c t))
    (fun j => Eq.trans ?_ (freq_blk m c t 0 j)) (fun j => Eq.trans ?_ (bias_blk m c t 0 j))
    (fun j => Eq.trans ?_ (freq_blk m c t 1 j)) (fun j => Eq.trans ?_ (bias_blk m c t 1 j))
    (fun j => Eq.trans ?_ (freq_blk m c t 2 j)) (fun j => Eq.trans ?_ (bias_blk m c t 2 j))
    (fun k j => Eq.trans ?_ (wmid_blk m c t 0 k j)) (fun k j => Eq.trans ?_ (wmid_blk m c t 1 k j))
  all_goals pointwise

/-- A row's entry, in either direction, is the reference's. -/
theorem entry_at (c : Dev nD) (t : Fin cfg0.N) (r : Fin 512) (p : Fin 16384) (hp : (p : ℕ) = lag (t.val * 512 + r)) (e : Fin 1024)
    (d : Fin 2) (W : Vec Ideal S1x64x1024 .bf16)
    (hW : ∀ k : Fin 64, W (ix3 0 k e) = (show FVec Ideal S64x2048 .f32 from m ((c : Thread nD τ).loc main_arg4))
      (ix2 k ⟨(e : ℕ) / 512 * 1024 + (d : ℕ) * 512 + (e : ℕ) % 512, by omega⟩)) :
    (∑ k : Fin 64, hid m c t (ix2 r k) * W (ix3 0 k e)) * Ideal.exp (dec m c t (ix2 r e))
      = flt m c (ix4 p ⟨(e : ℕ) / 512, by omega⟩ d ⟨(e : ℕ) % 512, by omega⟩) :=
  decayed_at _ _ _ W r p d e _ _ _ _ _ (hid_at m c t r p hp)
    (time_at _ r p (by rw [coord]; exact hp)) (decay_blk m c t e) hW

theorem lag_le (n : ℕ) : lag n ≤ 16384 := by
  unfold lag
  split <;> omega

/-- A step's own direction at a row: the reference's filter at the row's lag, or zero past the end. -/
theorem own_at (c : Dev nD) (t : Fin cfg0.N) (r : Fin 512) (e : Fin 1024) :
    k0_pay2 (F := Ideal) (k0_pay7 (grid0.coords t)) (hid m c t) (dec m c t) (iblk m c 7 t) (ix2 r e)
      = if h : lag (t.val * 512 + r) < 16384 then
          flt m c (ix4 ⟨lag (t.val * 512 + r), h⟩ ⟨(e : ℕ) / 512, by omega⟩ (if t.val < 32 then 0 else 1) ⟨(e : ℕ) % 512, by omega⟩)
        else (0 : EReal) := by
  refine (pay2_at _ _ _ _ r e (lag (t.val * 512 + r)) (lag_le _) (by rw [lag_at, coord])).trans ?_
  split
  · next h => exact (entry_at m c t r ⟨_, h⟩ rfl e _ _ (fun k => wdir_blk m c t k e))
  · rfl

/-- A step behind the first holds its rows of the reference's filter. -/
theorem later_row (c : Dev nD) (t : Fin cfg0.N) (h1 : 1 ≤ t.val) (r : Fin 512) (e : Fin 1024) :
    k0_pay2 (F := Ideal) (k0_pay7 (grid0.coords t)) (hid m c t) (dec m c t) (iblk m c 7 t) (ix2 r e)
      = two m c (ix3 ⟨t.val * 512 + r, by have h : t.val < 64 := t.isLt; omega⟩ ⟨(e : ℕ) / 512, by omega⟩ ⟨(e : ℕ) % 512, by omega⟩) := by
  have hr := r.isLt
  refine (own_at m c t r e).trans (Eq.trans ?_ (two_at _ _ _ _ _ _ _ _).symm)
  refine dite_congr rfl (fun h => ?_) fun _ => rfl
  refine Eq.trans ?_ (if_neg (show ¬t.val * 512 + (r : ℕ) = 0 by omega)).symm
  refine congrArg (flt m c) ?_
  have e2 : (if t.val < 32 then 0 else 1 : Fin 2) = if t.val * 512 + (r : ℕ) < 16384 then 0 else 1 := if_congr (by omega) rfl rfl
  rw [e2]

/-- The first step holds the filter's first rows, both directions added in the very first. -/
theorem first_row (c : Dev nD) (t : Fin cfg0.N) (h1 : ¬1 ≤ t.val) (r : Fin 512) (e : Fin 1024) :
    k0_pay3 (F := Ideal) (k0_pay6 (grid0.coords t)) (k0_pay7 (grid0.coords t)) (hid m c t) (dec m c t) (iblk m c 7 t) (iblk m c 8 t) (ix2 r e)
      = two m c (ix3 ⟨t.val * 512 + r, by have h : t.val < 64 := t.isLt; omega⟩ ⟨(e : ℕ) / 512, by omega⟩ ⟨(e : ℕ) % 512, by omega⟩) := by
  have hr := r.isLt
  have ht : t.val = 0 := by omega
  have hl : lag (t.val * 512 + r) < 16384 := by unfold lag; rw [if_pos (by omega)]; omega
  have hrow : k0_pay6 (grid0.coords t) (ix2 r 0) = BitVec.ofNat 32 r := by
    rw [row_at, coord, ht, zero_mul, zero_add]
  refine (pay3_at _ _ _ _ _ _ r e hrow).trans (Eq.trans ?_ (two_at _ _ _ _ _ _ _ _).symm)
  rw [own_at, dif_pos hl, entry_at m c t r ⟨_, hl⟩ rfl e 1 _ (fun k => wback_blk m c t k e)]
  refine Eq.trans ?_ (dif_pos hl).symm
  refine if_congr (show (r : ℕ) = 0 ↔ t.val * 512 + (r : ℕ) = 0 by omega) ?_ ?_
  · rw [if_pos (show t.val < 32 by omega)]
  · rw [if_pos (show t.val < 32 by omega)]
    refine congrArg (flt m c) ?_
    have e2 : (if t.val * 512 + (r : ℕ) < 16384 then 0 else 1 : Fin 2) = 0 := if_pos (by omega)
    dsimp only
    rw [e2]

/-- Every step leaves its rows of the reference's filter. -/
theorem block (c : Dev nD) (t : Fin cfg0.N) (r : Fin 512) (e : Fin 1024) :
    (outsAt0 m c t.val t.isLt).1 (ix2 r e)
      = two m c (ix3 ⟨t.val * 512 + r, by have h : t.val < 64 := t.isLt; omega⟩ ⟨(e : ℕ) / 512, by omega⟩ ⟨(e : ℕ) % 512, by omega⟩) := by
  have ht : t.val < 64 := t.isLt
  by_cases h1 : 1 ≤ t.val
  · rw [outsAt0_B m c t (by omega) h1]
    dsimp only
    frame_out
    exact later_row m c t h1 r e
  · rw [outsAt0_A m c t (by omega) h1]
    dsimp only
    frame_out
    exact first_row m c t h1 r e

/-- The two-sided filter the kernel leaves is the reference's. -/
theorem final_two (c : Dev nD) : (dats m 0 c).arrAt 10 (cfgs 0).N
    = val_main_v87 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 10 _ (by decide +kernel) fun t _ y => ?_
  have hy0 : (y 0 : ℕ) < 512 := (y 0).isLt
  have hy1 : (y 1 : ℕ) < 1024 := (y 1).isLt
  blk_simp
  rw [after0_10]
  refine (congrArg (outsAt0 m c t.val t.isLt).1 (ix2_eta y).symm).trans ((block m c t (y 0) (y 1)).trans ?_)
  refine Eq.trans ?_ (val_main_v87_apply (F := Ideal) _ _ _ _ _ _).symm
  blk_point [idx t, idx_main_v87]

/-- The sum of absolute values over a step's rows, of an array in the kernel's own shape. -/
theorem pay4_at (R L : IVec S512x1 32) (H : FVec Ideal S512x64 .bf16) (E : FVec Ideal S512x1024 .f32) (W U : Vec Ideal S1x64x1024 .bf16) (y : S1x1024.Idx) :
    k0_pay4 (F := Ideal) R L H E W U y = ∑ r : Fin 512, FloatOps.absf (F := Ideal) (φ := .f32) (k0_pay3 (F := Ideal) R L H E W U (ix2 r (y 1))) := by
  unfold k0_pay4
  generalize k0_pay3 (F := Ideal) R L H E W U = P
  pointwise

/-- The running sum after a step behind the first. -/
theorem pay5_at (L : IVec S512x1 32) (H : FVec Ideal S512x64 .bf16) (E : FVec Ideal S512x1024 .f32) (W : Vec Ideal S1x64x1024 .bf16)
    (A : Vec Ideal S1x1024 .f32) (y : S1x1024.Idx) :
    k0_pay5 (F := Ideal) L H E W A y = A y + ∑ r : Fin 512, FloatOps.absf (F := Ideal) (φ := .f32) (k0_pay2 (F := Ideal) L H E W (ix2 r (y 1))) := by
  unfold k0_pay5
  generalize k0_pay2 (F := Ideal) L H E W = P
  pointwise

/-- A step's share of the sum of absolute values. -/
def share (c : Dev nD) (t : Fin cfg0.N) (y : S1x1024.Idx) : EReal :=
  ∑ r : Fin 512, FloatOps.absf (F := Ideal) (φ := .f32) (two m c (ix3 ⟨t.val * 512 + r, by have h : t.val < 64 := t.isLt; omega⟩
    ⟨(y 1 : ℕ) / 512, by have h : (y 1 : ℕ) < 1024 := (y 1).isLt; omega⟩ ⟨(y 1 : ℕ) % 512, by omega⟩))

/-- The sum of absolute values the kernel leaves is the reference's. -/
theorem final_norm (c : Dev nD) : (dats m 0 c).arrAt 11 (cfgs 0).N
    = val_main_v88 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 11 _ (by decide +kernel) fun t hf y => ?_
  have ht : t.val < 64 := t.isLt
  have hy1 : (y 1 : ℕ) < 1024 := (y 1).isLt
  blk_simp
  rw [after0_11, Pipeline.eq_sum_fin_of_reset_step_apply_of_flush (fun n h => (outsAt0 m c n h).2) 64 (fun _ => (0 : EReal)) (share m c)
    (fun t h y => by
      have ht : t.val < 64 := t.isLt
      rw [outsAt0_A m c t h (by omega)]
      dsimp only
      frame_out
      refine (pay4_at _ _ _ _ _ _ y).trans (Eq.trans ?_ (zero_add _).symm)
      exact Finset.sum_congr rfl fun r _ => congrArg (FloatOps.absf (F := Ideal) (φ := .f32)) (first_row m c t (by omega) r (y 1)))
    (fun t h y => by
      rw [outsAt0_B m c t h (by omega)]
      dsimp only
      frame_out
      refine (pay5_at _ _ _ _ _ y).trans (congrArg₂ (fun u v : EReal => u + v) rfl ?_)
      exact Finset.sum_congr rfl fun r _ => congrArg (FloatOps.absf (F := Ideal) (φ := .f32)) (later_row m c t (by omega) r (y 1)))
    t ((flush0_11 t).mp hf) _, zero_add]
  refine Eq.trans ?_ (val_main_v88_apply (F := Ideal) _ _ _ _ _ _).symm
  rw [val_main_v86_apply, val_main_v85_apply]
  refine Eq.trans ?_ (congrArg₂ (fun u v : EReal => u + v) (Ideal.ofBits_zero_f32).symm rfl)
  refine Eq.trans ?_ (zero_add (_ : EReal)).symm
  unfold share
  refine Fin.sum_mul_add_congr (fun s k hl => ?_)
  refine Eq.trans ?_ (val_main_v84_apply (F := Ideal) _ _ _ _ _ _).symm
  refine congrArg (FloatOps.absf (F := Ideal) (φ := .f32)) (congrArg (two m c) ?_)
  have hs := s.isLt
  have hk := k.isLt
  have hq : 64 * (t.val / 64) + (s : ℕ) = s := by omega
  blk_point [idx t, idx_main_v85, idx_main_v86, idx_main_v88, hq]

end Cert.FiltIdeal.Layer

end
-- ==== Proof.Dft.lean ====
/-
The first stage of the filters' transform: the array the kernel leaves is the reference's.
-/
module

public import proofs.«01_k».proof.Proof.Gen.DftIdeal.Frame
public import proofs.«01_k».proof.Proof.Gen.DftRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.DftIdeal.Layer

open Cert.DftIdeal Cert.DftIdeal.Gen Cert.DftRefIdeal.Read

variable (m : (ℓ : Loc nD τ sig) → Buf (Elt Ideal) ℓ)

/-- The block every window stands at, at every grid point. -/
theorem idx : ∀ t : Fin cfg0.N, win0_0.index t = ![0, 0]
    ∧ win0_1.index t = ![0, 0, t.val]
    ∧ win0_2.index t = ![0, 0, t.val] :=
  (by decide +kernel : ∀ t : Fin grid0.N, _)

set_option maxHeartbeats 1600000 in
/-- The matrix of the transform: the cosines over the negated sines. -/
theorem mat_ops (c : Dev nD) : (show FVec Ideal S512x256 .bf16 from V m c main_v50)
    = truncf .bf16 (concatenate S512x256 0 [⟨S256x256, val_main_v10 (F := Ideal)⟩, ⟨S256x256, val_main_v14 (F := Ideal)⟩]
        concatenates_S256x256_S256x256_S512x256_d0 : FVec Ideal S512x256 .f32) bitsLt_bf16_f32 := by
  unfold V
  simp only [hostOps0, hostOps0_1, hostOps0_2, hostOps0_3, hostOps0_4,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  rfl

/-- An entry of the matrix. -/
theorem mat (c : Dev nD) (r : Fin 512) (k : Fin 256) : (show FVec Ideal S512x256 .bf16 from V m c main_v50) (ix2 r k)
    = if h : (r : ℕ) < 256 then val_main_v10 (F := Ideal) (ix2 ⟨r, h⟩ k) else val_main_v14 (F := Ideal) (ix2 ⟨r - 256, by omega⟩ k) := by
  rw [mat_ops]
  generalize val_main_v10 (F := Ideal) = A
  generalize val_main_v14 (F := Ideal) = B
  pointwise

/-- The matrix a step holds. -/
theorem mat_blk (c : Dev nD) (t : Fin cfg0.N) (r : Fin 512) (k : Fin 256) :
    (show FVec Ideal S512x256 .bf16 from iblk m c 0 t) (ix2 r k)
      = if h : (r : ℕ) < 256 then val_main_v10 (F := Ideal) (ix2 ⟨r, h⟩ k) else val_main_v14 (F := Ideal) (ix2 ⟨r - 256, by omega⟩ k) := by
  refine Eq.trans ?_ (mat m c r k)
  blk_point [iblk, idx t]

/-- Two sums are equal when their terms are. -/
theorem sum_eq {n : ℕ} {f g : Fin n → EReal} (h : ∀ k, f k = g k) : ∑ k, f k = ∑ k, g k :=
  Finset.sum_congr rfl fun k _ => h k

/-- The reference's array at an index. -/
theorem ref_at (x0 : FVec Ideal Cert.DftRefIdeal.S1x256x131072 .f32) (r : Fin 512) (e : Fin 131072) :
    val_main_v18 (F := Ideal) x0 (ix3 0 r e)
      = ∑ k : Fin 256, (if h : (r : ℕ) < 256 then val_main_v10 (F := Ideal) (ix2 ⟨r, h⟩ k) else val_main_v14 (F := Ideal) (ix2 ⟨r - 256, by omega⟩ k))
          * x0 (ix3 0 k e) := by
  pointwise [val_main_v18, val_main_v17, val_main_v12, val_main_v16, val_main_v11, val_main_v15]
  split_ifs <;> exact Finset.sum_congr rfl fun k _ => mul_comm _ _

/-- The array the kernel leaves is the reference's: the transforms' real parts, then their imaginary parts. -/
theorem final (c : Dev nD) : (dats m 0 c).arrAt 2 (cfgs 0).N
    = val_main_v18 (F := Ideal) (m ((c : Thread nD τ).loc main_arg0)) := by
  refine (dats m 0 c).arrAt_eq_of_covers 2 _ (by decide +kernel) fun t _ y => ?_
  have ht : t.val < 64 := t.isLt
  have hy1 : (y 1 : ℕ) < 512 := (y 1).isLt
  have hy2 : (y 2 : ℕ) < 2048 := (y 2).isLt
  blk_simp
  rw [after0_2]
  frame_out
  pointwise [k0_pay1]
  have he : (win0_2.blk t).view.emb y = ix3 0 (y 1) ⟨t.val * 2048 + (y 2 : ℕ), by omega⟩ := by
    blk_point [idx t]
  refine Eq.trans ?_ ((congrArg (val_main_v18 (F := Ideal) (m ((c : Thread nD τ).loc main_arg0))) he).trans (ref_at _ _ _)).symm
  refine sum_eq fun k => congrArg₂ (fun u v : EReal => u * v) (mat_blk m c t (y 1) k) ?_
  refine Eq.trans ?_ (congrFun (V_main_arg0 m c) (ix3 0 k ⟨t.val * 2048 + (y 2 : ℕ), by omega⟩))
  blk_point [iblk, idx t]

end Cert.DftIdeal.Layer

end
-- ==== Proof.Pair.lean ====
/-
The first stage of the signals' transform: the array the kernel leaves is the reference's.
-/
module

public import proofs.«01_k».proof.Proof.Gen.PairIdeal.Frame
public import proofs.«01_k».proof.Proof.Gen.PairRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.PairIdeal.Layer

open Cert.PairIdeal Cert.PairIdeal.Gen Cert.PairRefIdeal.Read

variable (m : (ℓ : Loc nD τ sig) → Buf (Elt Ideal) ℓ)

/-- The block every window stands at, at every grid point. -/
theorem idx : ∀ t : Fin cfg0.N, win0_0.index t = ![0, 0]
    ∧ win0_1.index t = ![2 * (t.val / 32), 0, t.val % 32]
    ∧ win0_2.index t = ![2 * (t.val / 32) + 1, 0, t.val % 32]
    ∧ win0_3.index t = ![t.val / 32, 0, t.val % 32] :=
  (by decide +kernel : ∀ t : Fin grid0.N, _)

set_option maxHeartbeats 1600000 in
/-- The matrix of the transform of a complex signal, by its real and its imaginary part. -/
theorem mat_ops (c : Dev nD) : (show FVec Ideal S512x256 .bf16 from V m c main_v48)
    = truncf .bf16 (concatenate S512x256 0
        [⟨S256x256, (concatenate S256x256 1 [⟨S256x128, val_main_v11 (F := Ideal)⟩,
          ⟨S256x128, Host.negf (extractStridedSlice S256x128 ![0, 0] (Host.negf (val_main_v12 (F := Ideal))) slices_S256x256_S256x128_0_0)⟩]
          concatenates_S256x128_S256x128_S256x256_d1 : FVec Ideal S256x256 .f32)⟩,
         ⟨S256x256, (concatenate S256x256 1 [⟨S256x128, extractStridedSlice S256x128 ![0, 0] (Host.negf (val_main_v12 (F := Ideal))) slices_S256x256_S256x128_0_0⟩,
          ⟨S256x128, val_main_v11 (F := Ideal)⟩] concatenates_S256x128_S256x128_S256x256_d1 : FVec Ideal S256x256 .f32)⟩]
        concatenates_S256x256_S256x256_S512x256_d0 : FVec Ideal S512x256 .f32) bitsLt_bf16_f32 := by
  unfold V
  simp only [hostOps0, hostOps0_1, hostOps0_2, hostOps0_3, hostOps0_4,
    List.flatten_cons, List.flatten_nil, List.append_nil, List.cons_append, List.nil_append]
  simp only [StableHlo.TRef.binary, StableHlo.TRef.ternary, StableHlo.TRef.unary, StableHlo.TRef.nullary, StableHlo.TRef.reshape]
  after_results_simp
  refine congrArg₂ (fun a b : FVec Ideal S256x256 .f32 => truncf .bf16 (concatenate S512x256 0 [⟨S256x256, a⟩, ⟨S256x256, b⟩]
    concatenates_S256x256_S256x256_S512x256_d0 : FVec Ideal S512x256 .f32) bitsLt_bf16_f32) ?_ ?_
  all_goals
    after_results_simp
    refine congrArg₂ (fun a b : FVec Ideal S256x128 .f32 => (concatenate S256x256 1 [⟨S256x128, a⟩, ⟨S256x128, b⟩]
      concatenates_S256x128_S256x128_S256x256_d1 : FVec Ideal S256x256 .f32)) ?_ ?_
    all_goals
      after_results_simp
      rfl

/-- An entry of the matrix. -/
theorem mat (c : Dev nD) (r : Fin 512) (k : Fin 256) : (show FVec Ideal S512x256 .bf16 from V m c main_v48) (ix2 r k)
    = if h : (r : ℕ) < 256 then
        (if g : (k : ℕ) < 128 then val_main_v11 (F := Ideal) (ix2 ⟨r, h⟩ ⟨k, g⟩) else val_main_v13 (F := Ideal) (ix2 ⟨r, h⟩ ⟨k - 128, by omega⟩))
      else (if g : (k : ℕ) < 128 then val_main_v21 (F := Ideal) (ix2 ⟨r - 256, by omega⟩ ⟨k, g⟩)
        else val_main_v11 (F := Ideal) (ix2 ⟨r - 256, by omega⟩ ⟨k - 128, by omega⟩)) := by
  rw [mat_ops]
  unfold val_main_v21 val_main_v13
  generalize val_main_v11 (F := Ideal) = A
  generalize val_main_v12 (F := Ideal) = B
  pointwise
  simp only [neg_neg]

/-- The matrix a step holds. -/
theorem mat_blk (c : Dev nD) (t : Fin cfg0.N) (r : Fin 512) (k : Fin 256) :
    (show FVec Ideal S512x256 .bf16 from iblk m c 0 t) (ix2 r k) = (show FVec Ideal S512x256 .bf16 from V m c main_v48) (ix2 r k) := by
  blk_point [iblk, idx t]

/-- Two sums are equal when their terms are. -/
theorem sum_eq {n : ℕ} {f g : Fin n → EReal} (h : ∀ k, f k = g k) : ∑ k, f k = ∑ k, g k :=
  Finset.sum_congr rfl fun k _ => h k

/-- The reference's array at an index. -/
theorem ref_at (x0 : FVec Ideal Cert.PairRefIdeal.S4x128x65536 .f32) (p : Fin 2) (r : Fin 512) (e : Fin 65536) :
    val_main_v28 (F := Ideal) x0 (ix3 p r e)
      = (∑ k : Fin 128, (if h : (r : ℕ) < 256 then val_main_v11 (F := Ideal) (ix2 ⟨r, h⟩ k) else val_main_v21 (F := Ideal) (ix2 ⟨r - 256, by omega⟩ k))
          * x0 (ix3 ⟨2 * (p : ℕ), by omega⟩ k e))
        + ∑ k : Fin 128, (if h : (r : ℕ) < 256 then val_main_v13 (F := Ideal) (ix2 ⟨r, h⟩ k) else val_main_v11 (F := Ideal) (ix2 ⟨r - 256, by omega⟩ k))
          * x0 (ix3 ⟨1 + 2 * (p : ℕ), by omega⟩ k e) := by
  pointwise [val_main_v28, val_main_v27, val_main_v26, val_main_v25, val_main_v24, val_main_v23, val_main_v22, val_main_v20,
    val_main_v19, val_main_v18, val_main_v17, val_main_v16, val_main_v15, val_main_v14]
  split_ifs <;> exact congrArg₂ (fun u v : EReal => u + v) (Finset.sum_congr rfl fun k _ => mul_comm _ _) (Finset.sum_congr rfl fun k _ => mul_comm _ _)

set_option maxHeartbeats 1600000 in
/-- The array the kernel leaves is the reference's: the pairs' transforms, real parts, then imaginary parts. -/
theorem final (c : Dev nD) : (dats m 0 c).arrAt 3 (cfgs 0).N
    = val_main_v28 (F := Ideal) (m ((c : Thread nD τ).loc main_arg0)) := by
  refine (dats m 0 c).arrAt_eq_of_covers 3 _ (by decide +kernel) fun t _ y => ?_
  have ht : t.val < 64 := t.isLt
  have hy1 : (y 1 : ℕ) < 512 := (y 1).isLt
  have hy2 : (y 2 : ℕ) < 2048 := (y 2).isLt
  blk_simp
  rw [after0_3]
  frame_out
  pointwise [k0_pay1]
  have he : (win0_3.blk t).view.emb y = ix3 ⟨t.val / 32, by omega⟩ (y 1) ⟨t.val % 32 * 2048 + (y 2 : ℕ), by omega⟩ := by
    blk_point [idx t]
  refine Eq.trans ?_ ((congrArg (val_main_v28 (F := Ideal) (m ((c : Thread nD τ).loc main_arg0))) he).trans (ref_at _ _ _ _)).symm
  refine congrArg₂ (fun u v : EReal => u + v) ?_ ?_
  · refine sum_eq fun k => congrArg₂ (fun u v : EReal => u * v) ?_ ?_
    · refine (mat_blk m c t (y 1) _).trans ((mat m c (y 1) _).trans (dite_congr rfl (fun h => ?_) fun h => ?_))
      · exact dif_pos k.isLt
      · exact dif_pos k.isLt
    · refine Eq.trans ?_ (congrFun (V_main_arg0 m c) (ix3 ⟨2 * (t.val / 32), by omega⟩ k ⟨t.val % 32 * 2048 + (y 2 : ℕ), by omega⟩))
      blk_point [iblk, idx t]
  · have hk : ∀ k : Fin 128, ¬128 + (k : ℕ) < 128 := fun k => by omega
    refine sum_eq fun k => congrArg₂ (fun u v : EReal => u * v) ?_ ?_
    · refine (mat_blk m c t (y 1) _).trans ((mat m c (y 1) _).trans (dite_congr rfl (fun h => ?_) fun h => ?_))
      · refine (dif_neg (hk k)).trans (congrArg _ ?_)
        blk_point
      · refine (dif_neg (hk k)).trans (congrArg _ ?_)
        blk_point
    · refine Eq.trans ?_ (congrFun (V_main_arg0 m c) (ix3 ⟨1 + 2 * (t.val / 32), by omega⟩ k ⟨t.val % 32 * 2048 + (y 2 : ℕ), by omega⟩))
      blk_point [iblk, idx t]

end Cert.PairIdeal.Layer

end
-- ==== Proof.lean ====
/-
The certificate: every program runs and keeps its arguments, and each kernel computes what its reference does.
-/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Attn
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.Proj
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.Merge
public import proofs.«01_k».proof.Proof.Gen.Resid.Frame
public import proofs.«01_k».proof.Proof.Gen.ResidIdeal.Frame
public import proofs.«01_k».proof.Proof.Gen.ResidRefIdeal.Run
public import proofs.«01_k».proof.Proof.Gen.ResidRefIdeal.Read
public import proofs.«01_k».proof.Proof.Resid
public import proofs.«01_k».proof.Proof.Gen.MemKv.Frame
public import proofs.«01_k».proof.Proof.Gen.MemKvIdeal.Frame
public import proofs.«01_k».proof.Proof.Gen.MemKvRefIdeal.Run
public import proofs.«01_k».proof.Proof.Gen.MemKvRefIdeal.Read
public import proofs.«01_k».proof.Proof.MemKv
public import proofs.«01_k».proof.Proof.Gen.MemAttn.Frame
public import proofs.«01_k».proof.Proof.Gen.MemAttnIdeal.Frame
public import proofs.«01_k».proof.Proof.Gen.MemAttnRefIdeal.Run
public import proofs.«01_k».proof.Proof.Gen.MemAttnRefIdeal.Read
public import proofs.«01_k».proof.Proof.MemAttn
public import proofs.«01_k».proof.Proof.Gen.Conv.Frame
public import proofs.«01_k».proof.Proof.Gen.ConvIdeal.Frame
public import proofs.«01_k».proof.Proof.Gen.ConvRefIdeal.Run
public import proofs.«01_k».proof.Proof.Gen.ConvRefIdeal.Read
public import proofs.«01_k».proof.Proof.Conv
public import proofs.«01_k».proof.Proof.Gen.Filt.Frame
public import proofs.«01_k».proof.Proof.Gen.FiltIdeal.Frame
public import proofs.«01_k».proof.Proof.Gen.FiltRefIdeal.Run
public import proofs.«01_k».proof.Proof.Gen.FiltRefIdeal.Read
public import proofs.«01_k».proof.Proof.Filt
public import proofs.«01_k».proof.Proof.Gen.Dft.Frame
public import proofs.«01_k».proof.Proof.Gen.DftIdeal.Frame
public import proofs.«01_k».proof.Proof.Gen.DftRefIdeal.Run
public import proofs.«01_k».proof.Proof.Gen.DftRefIdeal.Read
public import proofs.«01_k».proof.Proof.Dft
public import proofs.«01_k».proof.Proof.Gen.Pair.Frame
public import proofs.«01_k».proof.Proof.Gen.PairIdeal.Frame
public import proofs.«01_k».proof.Proof.Gen.PairRefIdeal.Run
public import proofs.«01_k».proof.Proof.Gen.PairRefIdeal.Read
public import proofs.«01_k».proof.Proof.Pair
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe

/-- The reference of the windowed attention runs, keeps its arguments and ends with every counter at zero. -/
theorem frame_AttnRef : Cert.quiescent_AttnRefIdeal := fun m ρ _ =>
  (θ_run Cert.AttnRefIdeal.defs _ _).mono (fun r h => ⟨fun c => ((h c).2), sem_eq_zero_of_no_sems (by decide) r.2⟩)
    (Cert.AttnRefIdeal.Value.run (F := Ideal) m ρ)

/-- The reference of the input projection runs, keeps its arguments and ends with every counter at zero. -/
theorem frame_ProjRef : Cert.quiescent_ProjRefIdeal := fun m ρ _ =>
  (θ_run Cert.ProjRefIdeal.defs _ _).mono (fun r h => ⟨fun c => ((h c).2.2.2.2), sem_eq_zero_of_no_sems (by decide) r.2⟩)
    (Cert.ProjRefIdeal.Value.run (F := Ideal) m ρ)

/-- The reference of the merge of the branches runs, keeps its arguments and ends with every counter at zero. -/
theorem frame_MergeRef : Cert.quiescent_MergeRefIdeal := fun m ρ _ =>
  (θ_run Cert.MergeRefIdeal.defs _ _).mono (fun r h => ⟨fun c => ((h c).2), sem_eq_zero_of_no_sems (by decide) r.2⟩)
    (Cert.MergeRefIdeal.Value.run (F := Ideal) m ρ)

/-- The reference of the residual norm runs, keeps its arguments and ends with every counter at zero. -/
theorem frame_ResidRef : Cert.quiescent_ResidRefIdeal := fun m ρ _ =>
  (θ_run Cert.ResidRefIdeal.defs _ _).mono (fun r h => ⟨fun c => ((h c).2), sem_eq_zero_of_no_sems (by decide) r.2⟩)
    (Cert.ResidRefIdeal.Value.run (F := Ideal) m ρ)

/-- The reference of the memory's keys and values runs, keeps its arguments and ends with every counter at zero. -/
theorem frame_MemKvRef : Cert.quiescent_MemKvRefIdeal := fun m ρ _ =>
  (θ_run Cert.MemKvRefIdeal.defs _ _).mono (fun r h => ⟨fun c => ((h c).2), sem_eq_zero_of_no_sems (by decide) r.2⟩)
    (Cert.MemKvRefIdeal.Value.run (F := Ideal) m ρ)

/-- The reference of the attention over the memory runs, keeps its arguments and ends with every counter at zero. -/
theorem frame_MemAttnRef : Cert.quiescent_MemAttnRefIdeal := fun m ρ _ =>
  (θ_run Cert.MemAttnRefIdeal.defs _ _).mono (fun r h => ⟨fun c => ((h c).2), sem_eq_zero_of_no_sems (by decide) r.2⟩)
    (Cert.MemAttnRefIdeal.Value.run (F := Ideal) m ρ)

/-- The reference of the short convolution runs, keeps its arguments and ends with every counter at zero. -/
theorem frame_ConvRef : Cert.quiescent_ConvRefIdeal := fun m ρ _ =>
  (θ_run Cert.ConvRefIdeal.defs _ _).mono (fun r h => ⟨fun c => ((h c).2), sem_eq_zero_of_no_sems (by decide) r.2⟩)
    (Cert.ConvRefIdeal.Value.run (F := Ideal) m ρ)

/-- The reference of the filters runs, keeps its arguments and ends with every counter at zero. -/
theorem frame_FiltRef : Cert.quiescent_FiltRefIdeal := fun m ρ _ =>
  (θ_run Cert.FiltRefIdeal.defs _ _).mono (fun r h => ⟨fun c => ((h c).2.2), sem_eq_zero_of_no_sems (by decide) r.2⟩)
    (Cert.FiltRefIdeal.Value.run (F := Ideal) m ρ)

/-- The reference of the filters' first transform runs, keeps its arguments and ends with every counter at zero. -/
theorem frame_DftRef : Cert.quiescent_DftRefIdeal := fun m ρ _ =>
  (θ_run Cert.DftRefIdeal.defs _ _).mono (fun r h => ⟨fun c => ((h c).2), sem_eq_zero_of_no_sems (by decide) r.2⟩)
    (Cert.DftRefIdeal.Value.run (F := Ideal) m ρ)

/-- The reference of the signals' first transform runs, keeps its arguments and ends with every counter at zero. -/
theorem frame_PairRef : Cert.quiescent_PairRefIdeal := fun m ρ _ =>
  (θ_run Cert.PairRefIdeal.defs _ _).mono (fun r h => ⟨fun c => ((h c).2), sem_eq_zero_of_no_sems (by decide) r.2⟩)
    (Cert.PairRefIdeal.Value.run (F := Ideal) m ρ)

/-- The value of the windowed attention: over the extended reals the kernel and the reference leave equal results. -/
theorem value_Attn : Cert.algebraic_AttnIdeal_AttnRefIdeal := by
  pair_intro
  · run_from Cert.AttnIdeal.Gen.run_main m g
    exact Cert.AttnIdeal.Gen.V_main_arg1 m c
  · run_from Cert.AttnRefIdeal.Value.run m' g'
    · obtain ⟨h0, h1, h2⟩ := hagree c
      rw [Cert.AttnRefIdeal.Read.val_main_v111_eq, h0, h1, h2]
      exact (Cert.AttnIdeal.Layer.final m c).symm

/-- The value of the input projection: over the extended reals the kernel and the reference leave equal results. -/
theorem value_Proj : Cert.algebraic_ProjIdeal_ProjRefIdeal := by
  pair_intro
  · run_from Cert.ProjIdeal.Gen.run_main m g
  · run_from Cert.ProjRefIdeal.Value.run m' g'
    · exact (Cert.ProjRefIdeal.Read.val_main_v4_eq _ _ _ ).trans (Cert.ProjIdeal.Layer.final_qkv m c).symm
    · exact (Cert.ProjRefIdeal.Read.val_main_v5_eq _ _ _ ).trans (Cert.ProjIdeal.Layer.final_hy m c).symm
    · exact (Cert.ProjRefIdeal.Read.val_main_v6_eq _ _ _ ).trans (Cert.ProjIdeal.Layer.final_qm m c).symm
    · exact (Cert.ProjRefIdeal.Read.val_main_v13_eq _ _ _ ).trans (Cert.ProjIdeal.Layer.final_gates m c).symm

/-- The value of the merge of the branches: over the extended reals the kernel and the reference leave equal results. -/
theorem value_Merge : Cert.algebraic_MergeIdeal_MergeRefIdeal := by
  pair_intro
  · run_from Cert.MergeIdeal.Gen.run_main m g
  · run_from Cert.MergeRefIdeal.Value.run m' g'
    · obtain ⟨h0, h1, h2, h3, h4, h5, h6, h7, h8⟩ := hagree c
      rw [Cert.MergeRefIdeal.Read.val_main_v50_eq, h0, h1, h2, h3, h4, h5, h6, h7, h8]
      exact (Cert.MergeIdeal.Layer.final m c).symm

/-- The value of the residual norm: over the extended reals the kernel and the reference leave equal results. -/
theorem value_Resid : Cert.algebraic_ResidIdeal_ResidRefIdeal := by
  pair_intro
  · run_from Cert.ResidIdeal.Gen.run_main m g
  · run_from Cert.ResidRefIdeal.Value.run m' g'
    · exact (Cert.ResidRefIdeal.Read.val_main_v26_eq _ _ _ _ ).trans (Cert.ResidIdeal.Layer.final m c).symm

/-- The value of the memory's keys and values: over the extended reals the kernel and the reference leave equal results. -/
theorem value_MemKv : Cert.algebraic_MemKvIdeal_MemKvRefIdeal := by
  pair_intro
  · run_from Cert.MemKvIdeal.Gen.run_main m g
  · run_from Cert.MemKvRefIdeal.Value.run m' g'
    · exact (Cert.MemKvRefIdeal.Read.val_main_v1_eq _ _ ).trans (Cert.MemKvIdeal.Layer.final m c).symm

/-- The value of the attention over the memory: over the extended reals the kernel and the reference leave equal results. -/
theorem value_MemAttn : Cert.algebraic_MemAttnIdeal_MemAttnRefIdeal := by
  pair_intro
  · run_from Cert.MemAttnIdeal.Gen.run_main m g
  · run_from Cert.MemAttnRefIdeal.Value.run m' g'
    · exact (Cert.MemAttnRefIdeal.Read.val_main_v22_eq _ _ ).trans (Cert.MemAttnIdeal.Layer.final m c).symm

set_option maxRecDepth 200000 in
/-- The value of the short convolution: over the extended reals the kernel and the reference leave equal results. -/
theorem value_Conv : Cert.algebraic_ConvIdeal_ConvRefIdeal := by
  pair_intro
  · run_from Cert.ConvIdeal.Gen.run_main m g
  · run_from Cert.ConvRefIdeal.Value.run m' g'
    · exact (Cert.ConvRefIdeal.Read.val_main_v23_eq _ _ _ ).trans (Cert.ConvIdeal.Layer.final m c).symm

set_option maxHeartbeats 4000000 in
set_option maxRecDepth 200000 in
/-- The value of the filters: over the extended reals the kernel and the reference leave equal results. -/
theorem value_Filt : Cert.algebraic_FiltIdeal_FiltRefIdeal := by
  pair_intro
  · run_from Cert.FiltIdeal.Gen.run_main m g
    · exact Cert.FiltIdeal.Gen.V_main_arg0 m c
    · exact Cert.FiltIdeal.Gen.V_main_arg1 m c
    · exact Cert.FiltIdeal.Gen.V_main_arg4 m c
  · run_from Cert.FiltRefIdeal.Value.run m' g'
    · obtain ⟨h0, h1, h2, h3, h4⟩ := hagree c
      rw [Cert.FiltRefIdeal.Read.val_main_v87_eq, h0, h1, h2, h3, h4]
      exact (Cert.FiltIdeal.Layer.final_two m c).symm
    · obtain ⟨h0, h1, h2, h3, h4⟩ := hagree c
      rw [Cert.FiltRefIdeal.Read.val_main_v88_eq, h0, h1, h2, h3, h4]
      exact (Cert.FiltIdeal.Layer.final_norm m c).symm

set_option maxHeartbeats 4000000 in
set_option maxRecDepth 200000 in
/-- The value of the filters' first transform: over the extended reals the kernel and the reference leave equal results. -/
theorem value_Dft : Cert.algebraic_DftIdeal_DftRefIdeal := by
  pair_intro
  · run_from Cert.DftIdeal.Gen.run_main m g
  · run_from Cert.DftRefIdeal.Value.run m' g'
    · obtain h0 := hagree c
      rw [Cert.DftRefIdeal.Read.val_main_v18_eq, h0]
      exact (Cert.DftIdeal.Layer.final m c).symm

set_option maxHeartbeats 4000000 in
set_option maxRecDepth 200000 in
/-- The value of the signals' first transform: over the extended reals the kernel and the reference leave equal results. -/
theorem value_Pair : Cert.algebraic_PairIdeal_PairRefIdeal := by
  pair_intro
  · run_from Cert.PairIdeal.Gen.run_main m g
  · run_from Cert.PairRefIdeal.Value.run m' g'
    · obtain h0 := hagree c
      rw [Cert.PairRefIdeal.Read.val_main_v28_eq, h0]
      exact (Cert.PairIdeal.Layer.final m c).symm

/-- Everything that is claimed. -/
theorem claim : Cert.Claim := ⟨Cert.Attn.Gen.facts, Cert.AttnIdeal.Gen.facts, Cert.AttnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Resid.Gen.facts, Cert.ResidIdeal.Gen.facts, Cert.ResidRefIdeal.Gen.facts, Cert.MemKv.Gen.facts, Cert.MemKvIdeal.Gen.facts, Cert.MemKvRefIdeal.Gen.facts, Cert.MemAttn.Gen.facts, Cert.MemAttnIdeal.Gen.facts, Cert.MemAttnRefIdeal.Gen.facts, Cert.Conv.Gen.facts, Cert.ConvIdeal.Gen.facts, Cert.ConvRefIdeal.Gen.facts, Cert.Filt.Gen.facts, Cert.FiltIdeal.Gen.facts, Cert.FiltRefIdeal.Gen.facts, Cert.Dft.Gen.facts, Cert.DftIdeal.Gen.facts, Cert.DftRefIdeal.Gen.facts, Cert.Pair.Gen.facts, Cert.PairIdeal.Gen.facts, Cert.PairRefIdeal.Gen.facts,
  fun m ρ _ => Cert.Attn.Gen.frame m ρ, fun m ρ _ => Cert.AttnIdeal.Gen.frame m ρ, frame_AttnRef,
  fun m ρ _ => Cert.Proj.Gen.frame m ρ, fun m ρ _ => Cert.ProjIdeal.Gen.frame m ρ, frame_ProjRef,
  fun m ρ _ => Cert.Merge.Gen.frame m ρ, fun m ρ _ => Cert.MergeIdeal.Gen.frame m ρ, frame_MergeRef,
  fun m ρ _ => Cert.Resid.Gen.frame m ρ, fun m ρ _ => Cert.ResidIdeal.Gen.frame m ρ, frame_ResidRef,
  fun m ρ _ => Cert.MemKv.Gen.frame m ρ, fun m ρ _ => Cert.MemKvIdeal.Gen.frame m ρ, frame_MemKvRef,
  fun m ρ _ => Cert.MemAttn.Gen.frame m ρ, fun m ρ _ => Cert.MemAttnIdeal.Gen.frame m ρ, frame_MemAttnRef,
  fun m ρ _ => Cert.Conv.Gen.frame m ρ, fun m ρ _ => Cert.ConvIdeal.Gen.frame m ρ, frame_ConvRef,
  fun m ρ _ => Cert.Filt.Gen.frame m ρ, fun m ρ _ => Cert.FiltIdeal.Gen.frame m ρ, frame_FiltRef,
  fun m ρ _ => Cert.Dft.Gen.frame m ρ, fun m ρ _ => Cert.DftIdeal.Gen.frame m ρ, frame_DftRef,
  fun m ρ _ => Cert.Pair.Gen.frame m ρ, fun m ρ _ => Cert.PairIdeal.Gen.frame m ρ, frame_PairRef,
  IdealRules.named_const.statement Cert.AttnIdeal.κ "mask" .f32 0xF149F2CA#32 ⊥ rfl, value_Attn,
  trivial, value_Proj,
  trivial, value_Merge,
  trivial, value_Resid,
  trivial, value_MemKv,
  trivial, value_MemAttn,
  trivial, value_Conv,
  trivial, value_Filt,
  trivial, value_Dft,
  trivial, value_Pair⟩

end Cert.Proof

end
